-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S4096x8192 : Shape := ⟨2, ![4096, 8192]⟩
abbrev S2x256x4096 : Shape := ⟨3, ![2, 256, 4096]⟩
abbrev S256x4096 : Shape := ⟨2, ![256, 4096]⟩
abbrev S2 : Shape := ⟨1, ![2]⟩
abbrev S_ : Shape := ⟨0, ![]⟩
abbrev S256x256 : Shape := ⟨2, ![256, 256]⟩
abbrev S1x256x4096 : Shape := ⟨3, ![1, 256, 4096]⟩

abbrev nBuf : Space → Nat
  | .hbm => 5
  | .vmem => 11
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x256, .fp8e4m3⟩
  | .local _ .vmem, ⟨1, _⟩ => ⟨S256x8192, .fp8e4m3⟩
  | .local _ .vmem, ⟨2, _⟩ => ⟨S256x8192, .bf16⟩
  | .local _ .vmem, ⟨3, _⟩ => ⟨S2x256x4096, .bf16⟩
  | .local _ .vmem, ⟨4, _⟩ => ⟨S2x256x4096, .bf16⟩
  | .local _ .vmem, ⟨5, _⟩ => ⟨S2x256x4096, .f32⟩
  | .local _ .vmem, ⟨6, _⟩ => ⟨S256x4096, .f32⟩
  | .local _ .vmem, ⟨7, _⟩ => ⟨S2x256x4096, .bf16⟩
  | .local _ .vmem, ⟨8, _⟩ => ⟨S2x256x4096, .bf16⟩
  | .local _ .vmem, ⟨9, _⟩ => ⟨S2x256x4096, .f32⟩
  | .local _ .vmem, ⟨10, _⟩ => ⟨S256x4096, .f32⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 3 18 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_79 : BitVec 32 := 1#32
  let v94 : BitVec 32 := Scalar.muli v62 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_82 : BitVec 32 := 1#32
  let v96 : BitVec 32 := Scalar.muli v92 c1_i32_82
  let v97 : BitVec 32 := Scalar.addi c0_i32_83 v96
  v97.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c256_i32 : BitVec 32 := 256#32
  let v104 : BitVec 32 := Scalar.muli v32 c256_i32
  let v105 : Index := Scalar.indexCast v104
  let c0_88 : Index := 0#32
  ![v105.toNat, 0]
def k0_dev3 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_107 : BitVec 32 := 1#32
  let v129 : BitVec 32 := Scalar.muli v62 c1_i32_107
  let v130 : BitVec 32 := Scalar.addi c0_i32_108 v129
  v130.toNat
def k0_dev4 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_117 : BitVec 32 := 1#32
  let v139 : BitVec 32 := Scalar.muli v92 c1_i32_117
  let v140 : BitVec 32 := Scalar.addi c0_i32_118 v139
  v140.toNat
def k0_off2 (d0 : Dev nD) (c1_i32_123 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v149 : BitVec 32 := Scalar.subi v32 c1_i32_123
  let c16_i32_124 : BitVec 32 := 16#32
  let c0_i32_125 : BitVec 32 := 0#32
  let v150 : BitVec 1 := Scalar.cmpi .eq c16_i32_124 c0_i32_125
  let c1_i32_126 : BitVec 32 := 1#32
  let v151 : BitVec 32 := Scalar.select v150 c1_i32_126 c16_i32_124
  let v152 : BitVec 32 := Scalar.remsi v149 v151
  let c0_i32_128 : BitVec 32 := 0#32
  let v154 : BitVec 1 := Scalar.cmpi .slt v152 c0_i32_128
  let c0_i32_129 : BitVec 32 := 0#32
  let v155 : BitVec 1 := Scalar.cmpi .slt v151 c0_i32_129
  let v156 : BitVec 1 := Scalar.xori v154 v155
  let c0_i32_127 : BitVec 32 := 0#32
  let v153 : BitVec 1 := Scalar.cmpi .ne v152 c0_i32_127
  let v157 : BitVec 1 := Scalar.andi v156 v153
  let v158 : BitVec 32 := Scalar.addi v152 v151
  let v159 : BitVec 32 := Scalar.select v157 v158 v152
  let c256_i32_130 : BitVec 32 := 256#32
  let v160 : BitVec 32 := Scalar.muli v159 c256_i32_130
  let v161 : Index := Scalar.indexCast v160
  let c0_131 : Index := 0#32
  ![v161.toNat, 0]
def k0_off3 (d0 : Dev nD) (c1_i32_135 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v167 : BitVec 32 := Scalar.addi v32 c1_i32_135
  let c16_i32_136 : BitVec 32 := 16#32
  let c0_i32_137 : BitVec 32 := 0#32
  let v168 : BitVec 1 := Scalar.cmpi .eq c16_i32_136 c0_i32_137
  let c1_i32_138 : BitVec 32 := 1#32
  let v169 : BitVec 32 := Scalar.select v168 c1_i32_138 c16_i32_136
  let v170 : BitVec 32 := Scalar.remsi v167 v169
  let c0_i32_140 : BitVec 32 := 0#32
  let v172 : BitVec 1 := Scalar.cmpi .slt v170 c0_i32_140
  let c0_i32_141 : BitVec 32 := 0#32
  let v173 : BitVec 1 := Scalar.cmpi .slt v169 c0_i32_141
  let v174 : BitVec 1 := Scalar.xori v172 v173
  let c0_i32_139 : BitVec 32 := 0#32
  let v171 : BitVec 1 := Scalar.cmpi .ne v170 c0_i32_139
  let v175 : BitVec 1 := Scalar.andi v174 v171
  let v176 : BitVec 32 := Scalar.addi v170 v169
  let v177 : BitVec 32 := Scalar.select v175 v176 v170
  let c256_i32_142 : BitVec 32 := 256#32
  let v178 : BitVec 32 := Scalar.muli v177 c256_i32_142
  let v179 : Index := Scalar.indexCast v178
  let c0_143 : Index := 0#32
  ![v179.toNat, 0]
def k0_dev5 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_172 : BitVec 32 := 1#32
  let v207 : BitVec 32 := Scalar.muli v92 c1_i32_172
  let v208 : BitVec 32 := Scalar.addi c0_i32_173 v207
  v208.toNat
def k0_dev6 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_200 : BitVec 32 := 1#32
  let v231 : BitVec 32 := Scalar.muli v62 c1_i32_200
  let v232 : BitVec 32 := Scalar.addi c0_i32_201 v231
  v232.toNat
def k0_dev7 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_206 : BitVec 32 := 1#32
  let v233 : BitVec 32 := Scalar.muli v62 c1_i32_206
  let v234 : BitVec 32 := Scalar.addi c0_i32_207 v233
  v234.toNat
def k0_dev8 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_216 : BitVec 32 := 1#32
  let v243 : BitVec 32 := Scalar.muli v92 c1_i32_216
  let v244 : BitVec 32 := Scalar.addi c0_i32_217 v243
  v244.toNat
def k0_dev9 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_272 : BitVec 32 := 1#32
  let v311 : BitVec 32 := Scalar.muli v92 c1_i32_272
  let v312 : BitVec 32 := Scalar.addi c0_i32_273 v311
  v312.toNat
def k0_dev10 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_300 : BitVec 32 := 1#32
  let v335 : BitVec 32 := Scalar.muli v62 c1_i32_300
  let v336 : BitVec 32 := Scalar.addi c0_i32_301 v335
  v336.toNat
def k0_dev11 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_308 : BitVec 32 := 1#32
  let v337 : BitVec 32 := Scalar.muli v62 c1_i32_308
  let v338 : BitVec 32 := Scalar.addi c0_i32_309 v337
  v338.toNat
def k0_dev12 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_320 : BitVec 32 := 1#32
  let v347 : BitVec 32 := Scalar.muli v92 c1_i32_320
  let v348 : BitVec 32 := Scalar.addi c0_i32_321 v347
  v348.toNat
def k0_dev13 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_376 : BitVec 32 := 1#32
  let v415 : BitVec 32 := Scalar.muli v92 c1_i32_376
  let v416 : BitVec 32 := Scalar.addi c0_i32_377 v415
  v416.toNat
def k0_dev14 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_404 : BitVec 32 := 1#32
  let v439 : BitVec 32 := Scalar.muli v62 c1_i32_404
  let v440 : BitVec 32 := Scalar.addi c0_i32_405 v439
  v440.toNat
def k0_dev15 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_412 : BitVec 32 := 1#32
  let v441 : BitVec 32 := Scalar.muli v62 c1_i32_412
  let v442 : BitVec 32 := Scalar.addi c0_i32_413 v441
  v442.toNat
def k0_dev16 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_424 : BitVec 32 := 1#32
  let v451 : BitVec 32 := Scalar.muli v92 c1_i32_424
  let v452 : BitVec 32 := Scalar.addi c0_i32_425 v451
  v452.toNat
def k0_dev17 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_480 : BitVec 32 := 1#32
  let v519 : BitVec 32 := Scalar.muli v92 c1_i32_480
  let v520 : BitVec 32 := Scalar.addi c0_i32_481 v519
  v520.toNat
def k0_dev18 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_508 : BitVec 32 := 1#32
  let v543 : BitVec 32 := Scalar.muli v62 c1_i32_508
  let v544 : BitVec 32 := Scalar.addi c0_i32_509 v543
  v544.toNat
def k0_dev19 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_516 : BitVec 32 := 1#32
  let v545 : BitVec 32 := Scalar.muli v62 c1_i32_516
  let v546 : BitVec 32 := Scalar.addi c0_i32_517 v545
  v546.toNat
def k0_dev20 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_528 : BitVec 32 := 1#32
  let v555 : BitVec 32 := Scalar.muli v92 c1_i32_528
  let v556 : BitVec 32 := Scalar.addi c0_i32_529 v555
  v556.toNat
def k0_dev21 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_584 : BitVec 32 := 1#32
  let v623 : BitVec 32 := Scalar.muli v92 c1_i32_584
  let v624 : BitVec 32 := Scalar.addi c0_i32_585 v623
  v624.toNat
def k0_dev22 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_612 : BitVec 32 := 1#32
  let v647 : BitVec 32 := Scalar.muli v62 c1_i32_612
  let v648 : BitVec 32 := Scalar.addi c0_i32_613 v647
  v648.toNat
def k0_dev23 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_620 : BitVec 32 := 1#32
  let v649 : BitVec 32 := Scalar.muli v62 c1_i32_620
  let v650 : BitVec 32 := Scalar.addi c0_i32_621 v649
  v650.toNat
def k0_dev24 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_632 : BitVec 32 := 1#32
  let v659 : BitVec 32 := Scalar.muli v92 c1_i32_632
  let v660 : BitVec 32 := Scalar.addi c0_i32_633 v659
  v660.toNat
def k0_dev25 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_688 : BitVec 32 := 1#32
  let v727 : BitVec 32 := Scalar.muli v92 c1_i32_688
  let v728 : BitVec 32 := Scalar.addi c0_i32_689 v727
  v728.toNat
def k0_dev26 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_716 : BitVec 32 := 1#32
  let v751 : BitVec 32 := Scalar.muli v62 c1_i32_716
  let v752 : BitVec 32 := Scalar.addi c0_i32_717 v751
  v752.toNat
def k0_dev27 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_724 : BitVec 32 := 1#32
  let v753 : BitVec 32 := Scalar.muli v62 c1_i32_724
  let v754 : BitVec 32 := Scalar.addi c0_i32_725 v753
  v754.toNat
def k0_dev28 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_736 : BitVec 32 := 1#32
  let v763 : BitVec 32 := Scalar.muli v92 c1_i32_736
  let v764 : BitVec 32 := Scalar.addi c0_i32_737 v763
  v764.toNat
def k0_dev29 (d0 : Dev nD) : Nat :=
  let c0_i32_793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_792 : BitVec 32 := 1#32
  let v831 : BitVec 32 := Scalar.muli v92 c1_i32_792
  let v832 : BitVec 32 := Scalar.addi c0_i32_793 v831
  v832.toNat
def k0_dev30 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_820 : BitVec 32 := 1#32
  let v855 : BitVec 32 := Scalar.muli v62 c1_i32_820
  let v856 : BitVec 32 := Scalar.addi c0_i32_821 v855
  v856.toNat
def k0_dev31 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_828 : BitVec 32 := 1#32
  let v857 : BitVec 32 := Scalar.muli v62 c1_i32_828
  let v858 : BitVec 32 := Scalar.addi c0_i32_829 v857
  v858.toNat
def k0_dev32 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_840 : BitVec 32 := 1#32
  let v867 : BitVec 32 := Scalar.muli v92 c1_i32_840
  let v868 : BitVec 32 := Scalar.addi c0_i32_841 v867
  v868.toNat
def k0_dev33 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_896 : BitVec 32 := 1#32
  let v935 : BitVec 32 := Scalar.muli v92 c1_i32_896
  let v936 : BitVec 32 := Scalar.addi c0_i32_897 v935
  v936.toNat
def k0_dev34 (d0 : Dev nD) : Nat :=
  let c0_i32_925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_924 : BitVec 32 := 1#32
  let v959 : BitVec 32 := Scalar.muli v62 c1_i32_924
  let v960 : BitVec 32 := Scalar.addi c0_i32_925 v959
  v960.toNat
def k0_dev35 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_932 : BitVec 32 := 1#32
  let v961 : BitVec 32 := Scalar.muli v62 c1_i32_932
  let v962 : BitVec 32 := Scalar.addi c0_i32_933 v961
  v962.toNat
def k0_dev36 (d0 : Dev nD) : Nat :=
  let c0_i32_945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_944 : BitVec 32 := 1#32
  let v971 : BitVec 32 := Scalar.muli v92 c1_i32_944
  let v972 : BitVec 32 := Scalar.addi c0_i32_945 v971
  v972.toNat
def k0_dev37 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1000 : BitVec 32 := 1#32
  let v1039 : BitVec 32 := Scalar.muli v92 c1_i32_1000
  let v1040 : BitVec 32 := Scalar.addi c0_i32_1001 v1039
  v1040.toNat
def k0_dev38 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1028 : BitVec 32 := 1#32
  let v1063 : BitVec 32 := Scalar.muli v62 c1_i32_1028
  let v1064 : BitVec 32 := Scalar.addi c0_i32_1029 v1063
  v1064.toNat
def k0_dev39 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1036 : BitVec 32 := 1#32
  let v1065 : BitVec 32 := Scalar.muli v62 c1_i32_1036
  let v1066 : BitVec 32 := Scalar.addi c0_i32_1037 v1065
  v1066.toNat
def k0_dev40 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1048 : BitVec 32 := 1#32
  let v1075 : BitVec 32 := Scalar.muli v92 c1_i32_1048
  let v1076 : BitVec 32 := Scalar.addi c0_i32_1049 v1075
  v1076.toNat
def k0_dev41 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1104 : BitVec 32 := 1#32
  let v1143 : BitVec 32 := Scalar.muli v92 c1_i32_1104
  let v1144 : BitVec 32 := Scalar.addi c0_i32_1105 v1143
  v1144.toNat
def k0_dev42 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1132 : BitVec 32 := 1#32
  let v1167 : BitVec 32 := Scalar.muli v62 c1_i32_1132
  let v1168 : BitVec 32 := Scalar.addi c0_i32_1133 v1167
  v1168.toNat
def k0_dev43 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1140 : BitVec 32 := 1#32
  let v1169 : BitVec 32 := Scalar.muli v62 c1_i32_1140
  let v1170 : BitVec 32 := Scalar.addi c0_i32_1141 v1169
  v1170.toNat
def k0_dev44 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1152 : BitVec 32 := 1#32
  let v1179 : BitVec 32 := Scalar.muli v92 c1_i32_1152
  let v1180 : BitVec 32 := Scalar.addi c0_i32_1153 v1179
  v1180.toNat
def k0_dev45 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1208 : BitVec 32 := 1#32
  let v1247 : BitVec 32 := Scalar.muli v92 c1_i32_1208
  let v1248 : BitVec 32 := Scalar.addi c0_i32_1209 v1247
  v1248.toNat
def k0_dev46 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1236 : BitVec 32 := 1#32
  let v1271 : BitVec 32 := Scalar.muli v62 c1_i32_1236
  let v1272 : BitVec 32 := Scalar.addi c0_i32_1237 v1271
  v1272.toNat
def k0_dev47 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1244 : BitVec 32 := 1#32
  let v1273 : BitVec 32 := Scalar.muli v62 c1_i32_1244
  let v1274 : BitVec 32 := Scalar.addi c0_i32_1245 v1273
  v1274.toNat
def k0_dev48 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1256 : BitVec 32 := 1#32
  let v1283 : BitVec 32 := Scalar.muli v92 c1_i32_1256
  let v1284 : BitVec 32 := Scalar.addi c0_i32_1257 v1283
  v1284.toNat
def k0_dev49 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1312 : BitVec 32 := 1#32
  let v1351 : BitVec 32 := Scalar.muli v92 c1_i32_1312
  let v1352 : BitVec 32 := Scalar.addi c0_i32_1313 v1351
  v1352.toNat
def k0_dev50 (d0 : Dev nD) : Nat :=
  let c0_i32_1341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1340 : BitVec 32 := 1#32
  let v1375 : BitVec 32 := Scalar.muli v62 c1_i32_1340
  let v1376 : BitVec 32 := Scalar.addi c0_i32_1341 v1375
  v1376.toNat
def k0_dev51 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1348 : BitVec 32 := 1#32
  let v1377 : BitVec 32 := Scalar.muli v62 c1_i32_1348
  let v1378 : BitVec 32 := Scalar.addi c0_i32_1349 v1377
  v1378.toNat
def k0_dev52 (d0 : Dev nD) : Nat :=
  let c0_i32_1361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1360 : BitVec 32 := 1#32
  let v1387 : BitVec 32 := Scalar.muli v92 c1_i32_1360
  let v1388 : BitVec 32 := Scalar.addi c0_i32_1361 v1387
  v1388.toNat
def k0_dev53 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1416 : BitVec 32 := 1#32
  let v1455 : BitVec 32 := Scalar.muli v92 c1_i32_1416
  let v1456 : BitVec 32 := Scalar.addi c0_i32_1417 v1455
  v1456.toNat
def k0_dev54 (d0 : Dev nD) : Nat :=
  let c0_i32_1445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1444 : BitVec 32 := 1#32
  let v1479 : BitVec 32 := Scalar.muli v62 c1_i32_1444
  let v1480 : BitVec 32 := Scalar.addi c0_i32_1445 v1479
  v1480.toNat
def k0_dev55 (d0 : Dev nD) : Nat :=
  let c0_i32_1453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1452 : BitVec 32 := 1#32
  let v1481 : BitVec 32 := Scalar.muli v62 c1_i32_1452
  let v1482 : BitVec 32 := Scalar.addi c0_i32_1453 v1481
  v1482.toNat
def k0_dev56 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1464 : BitVec 32 := 1#32
  let v1491 : BitVec 32 := Scalar.muli v92 c1_i32_1464
  let v1492 : BitVec 32 := Scalar.addi c0_i32_1465 v1491
  v1492.toNat
def k0_dev57 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1520 : BitVec 32 := 1#32
  let v1559 : BitVec 32 := Scalar.muli v92 c1_i32_1520
  let v1560 : BitVec 32 := Scalar.addi c0_i32_1521 v1559
  v1560.toNat
def k0_dev58 (d0 : Dev nD) : Nat :=
  let c0_i32_1549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1548 : BitVec 32 := 1#32
  let v1583 : BitVec 32 := Scalar.muli v62 c1_i32_1548
  let v1584 : BitVec 32 := Scalar.addi c0_i32_1549 v1583
  v1584.toNat
def k0_dev59 (d0 : Dev nD) : Nat :=
  let c0_i32_1557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1556 : BitVec 32 := 1#32
  let v1585 : BitVec 32 := Scalar.muli v62 c1_i32_1556
  let v1586 : BitVec 32 := Scalar.addi c0_i32_1557 v1585
  v1586.toNat
def k0_dev60 (d0 : Dev nD) : Nat :=
  let c0_i32_1569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1568 : BitVec 32 := 1#32
  let v1595 : BitVec 32 := Scalar.muli v92 c1_i32_1568
  let v1596 : BitVec 32 := Scalar.addi c0_i32_1569 v1595
  v1596.toNat
def k0_dev61 (d0 : Dev nD) : Nat :=
  let c0_i32_1628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1627 : BitVec 32 := 1#32
  let v1670 : BitVec 32 := Scalar.muli v92 c1_i32_1627
  let v1671 : BitVec 32 := Scalar.addi c0_i32_1628 v1670
  v1671.toNat
def k0_dev62 (d0 : Dev nD) : Nat :=
  let c0_i32_1659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1658 : BitVec 32 := 1#32
  let v1701 : BitVec 32 := Scalar.muli v62 c1_i32_1658
  let v1702 : BitVec 32 := Scalar.addi c0_i32_1659 v1701
  v1702.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_1660 : BitVec 32 := 1#32
  let v1703 : BitVec 32 := Scalar.addi v32 c1_i32_1660
  let c16_i32_1661 : BitVec 32 := 16#32
  let c0_i32_1662 : BitVec 32 := 0#32
  let v1704 : BitVec 1 := Scalar.cmpi .eq c16_i32_1661 c0_i32_1662
  let c1_i32_1663 : BitVec 32 := 1#32
  let v1705 : BitVec 32 := Scalar.select v1704 c1_i32_1663 c16_i32_1661
  let v1706 : BitVec 32 := Scalar.remsi v1703 v1705
  let c0_i32_1665 : BitVec 32 := 0#32
  let v1708 : BitVec 1 := Scalar.cmpi .slt v1706 c0_i32_1665
  let c0_i32_1666 : BitVec 32 := 0#32
  let v1709 : BitVec 1 := Scalar.cmpi .slt v1705 c0_i32_1666
  let v1710 : BitVec 1 := Scalar.xori v1708 v1709
  let c0_i32_1664 : BitVec 32 := 0#32
  let v1707 : BitVec 1 := Scalar.cmpi .ne v1706 c0_i32_1664
  let v1711 : BitVec 1 := Scalar.andi v1710 v1707
  let v1712 : BitVec 32 := Scalar.addi v1706 v1705
  let v1713 : BitVec 32 := Scalar.select v1711 v1712 v1706
  let c256_i32_1674 : BitVec 32 := 256#32
  let v1725 : BitVec 32 := Scalar.muli v1713 c256_i32_1674
  let c0_i32_1675 : BitVec 32 := 0#32
  ![v1725.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_1667 : BitVec 32 := 1#32
  let v1714 : BitVec 32 := Scalar.subi v32 c1_i32_1667
  let c16_i32_1668 : BitVec 32 := 16#32
  let c0_i32_1669 : BitVec 32 := 0#32
  let v1715 : BitVec 1 := Scalar.cmpi .eq c16_i32_1668 c0_i32_1669
  let c1_i32_1670 : BitVec 32 := 1#32
  let v1716 : BitVec 32 := Scalar.select v1715 c1_i32_1670 c16_i32_1668
  let v1717 : BitVec 32 := Scalar.remsi v1714 v1716
  let c0_i32_1672 : BitVec 32 := 0#32
  let v1719 : BitVec 1 := Scalar.cmpi .slt v1717 c0_i32_1672
  let c0_i32_1673 : BitVec 32 := 0#32
  let v1720 : BitVec 1 := Scalar.cmpi .slt v1716 c0_i32_1673
  let v1721 : BitVec 1 := Scalar.xori v1719 v1720
  let c0_i32_1671 : BitVec 32 := 0#32
  let v1718 : BitVec 1 := Scalar.cmpi .ne v1717 c0_i32_1671
  let v1722 : BitVec 1 := Scalar.andi v1721 v1718
  let v1723 : BitVec 32 := Scalar.addi v1717 v1716
  let v1724 : BitVec 32 := Scalar.select v1722 v1723 v1717
  let c256_i32_1676 : BitVec 32 := 256#32
  let v1727 : BitVec 32 := Scalar.muli v1724 c256_i32_1676
  let c4096_i32 : BitVec 32 := 4096#32
  ![v1727.toNat, 4096]
def k0_dev63 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1683 : BitVec 32 := 1#32
  let v1729 : BitVec 32 := Scalar.muli v62 c1_i32_1683
  let v1730 : BitVec 32 := Scalar.addi c0_i32_1684 v1729
  v1730.toNat
def k0_dev64 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1695 : BitVec 32 := 1#32
  let v1739 : BitVec 32 := Scalar.muli v92 c1_i32_1695
  let v1740 : BitVec 32 := Scalar.addi c0_i32_1696 v1739
  v1740.toNat
def k0_off6 (d0 : Dev nD) (c0_i32_1701 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v1749 : BitVec 32 := Scalar.subi v32 c0_i32_1701
  let c16_i32_1702 : BitVec 32 := 16#32
  let c0_i32_1703 : BitVec 32 := 0#32
  let v1750 : BitVec 1 := Scalar.cmpi .eq c16_i32_1702 c0_i32_1703
  let c1_i32_1704 : BitVec 32 := 1#32
  let v1751 : BitVec 32 := Scalar.select v1750 c1_i32_1704 c16_i32_1702
  let v1752 : BitVec 32 := Scalar.remsi v1749 v1751
  let c0_i32_1706 : BitVec 32 := 0#32
  let v1754 : BitVec 1 := Scalar.cmpi .slt v1752 c0_i32_1706
  let c0_i32_1707 : BitVec 32 := 0#32
  let v1755 : BitVec 1 := Scalar.cmpi .slt v1751 c0_i32_1707
  let v1756 : BitVec 1 := Scalar.xori v1754 v1755
  let c0_i32_1705 : BitVec 32 := 0#32
  let v1753 : BitVec 1 := Scalar.cmpi .ne v1752 c0_i32_1705
  let v1757 : BitVec 1 := Scalar.andi v1756 v1753
  let v1758 : BitVec 32 := Scalar.addi v1752 v1751
  let v1759 : BitVec 32 := Scalar.select v1757 v1758 v1752
  let c256_i32_1740 : BitVec 32 := 256#32
  let v1791 : BitVec 32 := Scalar.muli v1759 c256_i32_1740
  let c0_i32_1743 : BitVec 32 := 0#32
  ![v1791.toNat, 0]
def k0_off7 (d0 : Dev nD) (c0_i32_1708 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v1760 : BitVec 32 := Scalar.addi v32 c0_i32_1708
  let c16_i32_1709 : BitVec 32 := 16#32
  let c0_i32_1710 : BitVec 32 := 0#32
  let v1761 : BitVec 1 := Scalar.cmpi .eq c16_i32_1709 c0_i32_1710
  let c1_i32_1711 : BitVec 32 := 1#32
  let v1762 : BitVec 32 := Scalar.select v1761 c1_i32_1711 c16_i32_1709
  let v1763 : BitVec 32 := Scalar.remsi v1760 v1762
  let c0_i32_1713 : BitVec 32 := 0#32
  let v1765 : BitVec 1 := Scalar.cmpi .slt v1763 c0_i32_1713
  let c0_i32_1714 : BitVec 32 := 0#32
  let v1766 : BitVec 1 := Scalar.cmpi .slt v1762 c0_i32_1714
  let v1767 : BitVec 1 := Scalar.xori v1765 v1766
  let c0_i32_1712 : BitVec 32 := 0#32
  let v1764 : BitVec 1 := Scalar.cmpi .ne v1763 c0_i32_1712
  let v1768 : BitVec 1 := Scalar.andi v1767 v1764
  let v1769 : BitVec 32 := Scalar.addi v1763 v1762
  let v1770 : BitVec 32 := Scalar.select v1768 v1769 v1763
  let c256_i32_1771 : BitVec 32 := 256#32
  let v1817 : BitVec 32 := Scalar.muli v1770 c256_i32_1771
  let c4096_i32_1774 : BitVec 32 := 4096#32
  ![v1817.toNat, 4096]
def k0_dev65 (d0 : Dev nD) : Nat :=
  let c0_i32_1784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1783 : BitVec 32 := 1#32
  let v1823 : BitVec 32 := Scalar.muli v62 c1_i32_1783
  let v1824 : BitVec 32 := Scalar.addi c0_i32_1784 v1823
  v1824.toNat
def k0_dev66 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1795 : BitVec 32 := 1#32
  let v1833 : BitVec 32 := Scalar.muli v92 c1_i32_1795
  let v1834 : BitVec 32 := Scalar.addi c0_i32_1796 v1833
  v1834.toNat
def k0_dev67 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1835 : BitVec 32 := 1#32
  let v1879 : BitVec 32 := Scalar.muli v92 c1_i32_1835
  let v1880 : BitVec 32 := Scalar.addi c0_i32_1836 v1879
  v1880.toNat
def k0_dev68 (d0 : Dev nD) : Nat :=
  let c0_i32_1870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1869 : BitVec 32 := 1#32
  let v1907 : BitVec 32 := Scalar.muli v62 c1_i32_1869
  let v1908 : BitVec 32 := Scalar.addi c0_i32_1870 v1907
  v1908.toNat
def k0_dev69 (d0 : Dev nD) : Nat :=
  let c0_i32_1890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1889 : BitVec 32 := 1#32
  let v1921 : BitVec 32 := Scalar.muli v62 c1_i32_1889
  let v1922 : BitVec 32 := Scalar.addi c0_i32_1890 v1921
  v1922.toNat
def k0_dev70 (d0 : Dev nD) : Nat :=
  let c0_i32_1902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1901 : BitVec 32 := 1#32
  let v1931 : BitVec 32 := Scalar.muli v92 c1_i32_1901
  let v1932 : BitVec 32 := Scalar.addi c0_i32_1902 v1931
  v1932.toNat
def k0_dev71 (d0 : Dev nD) : Nat :=
  let c0_i32_1942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1941 : BitVec 32 := 1#32
  let v1977 : BitVec 32 := Scalar.muli v92 c1_i32_1941
  let v1978 : BitVec 32 := Scalar.addi c0_i32_1942 v1977
  v1978.toNat
def k0_dev72 (d0 : Dev nD) : Nat :=
  let c0_i32_1981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1980 : BitVec 32 := 1#32
  let v2010 : BitVec 32 := Scalar.muli v62 c1_i32_1980
  let v2011 : BitVec 32 := Scalar.addi c0_i32_1981 v2010
  v2011.toNat
def k0_dev73 (d0 : Dev nD) : Nat :=
  let c0_i32_2006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2005 : BitVec 32 := 1#32
  let v2029 : BitVec 32 := Scalar.muli v62 c1_i32_2005
  let v2030 : BitVec 32 := Scalar.addi c0_i32_2006 v2029
  v2030.toNat
def k0_dev74 (d0 : Dev nD) : Nat :=
  let c0_i32_2018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2017 : BitVec 32 := 1#32
  let v2039 : BitVec 32 := Scalar.muli v92 c1_i32_2017
  let v2040 : BitVec 32 := Scalar.addi c0_i32_2018 v2039
  v2040.toNat
def k0_dev75 (d0 : Dev nD) : Nat :=
  let c0_i32_2058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2057 : BitVec 32 := 1#32
  let v2085 : BitVec 32 := Scalar.muli v92 c1_i32_2057
  let v2086 : BitVec 32 := Scalar.addi c0_i32_2058 v2085
  v2086.toNat
def k0_dev76 (d0 : Dev nD) : Nat :=
  let c0_i32_2097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2096 : BitVec 32 := 1#32
  let v2118 : BitVec 32 := Scalar.muli v62 c1_i32_2096
  let v2119 : BitVec 32 := Scalar.addi c0_i32_2097 v2118
  v2119.toNat
def k0_dev77 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2121 : BitVec 32 := 1#32
  let v2137 : BitVec 32 := Scalar.muli v62 c1_i32_2121
  let v2138 : BitVec 32 := Scalar.addi c0_i32_2122 v2137
  v2138.toNat
def k0_dev78 (d0 : Dev nD) : Nat :=
  let c0_i32_2134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2133 : BitVec 32 := 1#32
  let v2147 : BitVec 32 := Scalar.muli v92 c1_i32_2133
  let v2148 : BitVec 32 := Scalar.addi c0_i32_2134 v2147
  v2148.toNat
def k0_dev79 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2173 : BitVec 32 := 1#32
  let v2193 : BitVec 32 := Scalar.muli v92 c1_i32_2173
  let v2194 : BitVec 32 := Scalar.addi c0_i32_2174 v2193
  v2194.toNat
def k0_dev80 (d0 : Dev nD) : Nat :=
  let c0_i32_2213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2212 : BitVec 32 := 1#32
  let v2226 : BitVec 32 := Scalar.muli v62 c1_i32_2212
  let v2227 : BitVec 32 := Scalar.addi c0_i32_2213 v2226
  v2227.toNat
def k0_dev81 (d0 : Dev nD) : Nat :=
  let c0_i32_2238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2237 : BitVec 32 := 1#32
  let v2245 : BitVec 32 := Scalar.muli v62 c1_i32_2237
  let v2246 : BitVec 32 := Scalar.addi c0_i32_2238 v2245
  v2246.toNat
def k0_dev82 (d0 : Dev nD) : Nat :=
  let c0_i32_2250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2249 : BitVec 32 := 1#32
  let v2255 : BitVec 32 := Scalar.muli v92 c1_i32_2249
  let v2256 : BitVec 32 := Scalar.addi c0_i32_2250 v2255
  v2256.toNat
def k0_dev83 (d0 : Dev nD) : Nat :=
  let c0_i32_2290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2289 : BitVec 32 := 1#32
  let v2301 : BitVec 32 := Scalar.muli v92 c1_i32_2289
  let v2302 : BitVec 32 := Scalar.addi c0_i32_2290 v2301
  v2302.toNat
def k0_dev84 (d0 : Dev nD) : Nat :=
  let c0_i32_2329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2328 : BitVec 32 := 1#32
  let v2334 : BitVec 32 := Scalar.muli v62 c1_i32_2328
  let v2335 : BitVec 32 := Scalar.addi c0_i32_2329 v2334
  v2335.toNat
def k0_dev85 (d0 : Dev nD) : Nat :=
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2353 : BitVec 32 := 1#32
  let v2353 : BitVec 32 := Scalar.muli v62 c1_i32_2353
  let v2354 : BitVec 32 := Scalar.addi c0_i32_2354 v2353
  v2354.toNat
def k0_dev86 (d0 : Dev nD) : Nat :=
  let c0_i32_2366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2365 : BitVec 32 := 1#32
  let v2363 : BitVec 32 := Scalar.muli v92 c1_i32_2365
  let v2364 : BitVec 32 := Scalar.addi c0_i32_2366 v2363
  v2364.toNat
def k0_dev87 (d0 : Dev nD) : Nat :=
  let c0_i32_2406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2405 : BitVec 32 := 1#32
  let v2409 : BitVec 32 := Scalar.muli v92 c1_i32_2405
  let v2410 : BitVec 32 := Scalar.addi c0_i32_2406 v2409
  v2410.toNat
def k0_dev88 (d0 : Dev nD) : Nat :=
  let c0_i32_2445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2444 : BitVec 32 := 1#32
  let v2442 : BitVec 32 := Scalar.muli v62 c1_i32_2444
  let v2443 : BitVec 32 := Scalar.addi c0_i32_2445 v2442
  v2443.toNat
def k0_dev89 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2469 : BitVec 32 := 1#32
  let v2461 : BitVec 32 := Scalar.muli v62 c1_i32_2469
  let v2462 : BitVec 32 := Scalar.addi c0_i32_2470 v2461
  v2462.toNat
def k0_dev90 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2481 : BitVec 32 := 1#32
  let v2471 : BitVec 32 := Scalar.muli v92 c1_i32_2481
  let v2472 : BitVec 32 := Scalar.addi c0_i32_2482 v2471
  v2472.toNat
def k0_dev91 (d0 : Dev nD) : Nat :=
  let c0_i32_2522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2521 : BitVec 32 := 1#32
  let v2517 : BitVec 32 := Scalar.muli v92 c1_i32_2521
  let v2518 : BitVec 32 := Scalar.addi c0_i32_2522 v2517
  v2518.toNat
def k0_dev92 (d0 : Dev nD) : Nat :=
  let c0_i32_2561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2560 : BitVec 32 := 1#32
  let v2550 : BitVec 32 := Scalar.muli v62 c1_i32_2560
  let v2551 : BitVec 32 := Scalar.addi c0_i32_2561 v2550
  v2551.toNat
def k0_dev93 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2585 : BitVec 32 := 1#32
  let v2569 : BitVec 32 := Scalar.muli v62 c1_i32_2585
  let v2570 : BitVec 32 := Scalar.addi c0_i32_2586 v2569
  v2570.toNat
def k0_dev94 (d0 : Dev nD) : Nat :=
  let c0_i32_2598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2597 : BitVec 32 := 1#32
  let v2579 : BitVec 32 := Scalar.muli v92 c1_i32_2597
  let v2580 : BitVec 32 := Scalar.addi c0_i32_2598 v2579
  v2580.toNat
def k0_dev95 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2637 : BitVec 32 := 1#32
  let v2625 : BitVec 32 := Scalar.muli v92 c1_i32_2637
  let v2626 : BitVec 32 := Scalar.addi c0_i32_2638 v2625
  v2626.toNat
def k0_dev96 (d0 : Dev nD) : Nat :=
  let c0_i32_2677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2676 : BitVec 32 := 1#32
  let v2658 : BitVec 32 := Scalar.muli v62 c1_i32_2676
  let v2659 : BitVec 32 := Scalar.addi c0_i32_2677 v2658
  v2659.toNat
def k0_dev97 (d0 : Dev nD) : Nat :=
  let c0_i32_2702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2701 : BitVec 32 := 1#32
  let v2677 : BitVec 32 := Scalar.muli v62 c1_i32_2701
  let v2678 : BitVec 32 := Scalar.addi c0_i32_2702 v2677
  v2678.toNat
def k0_dev98 (d0 : Dev nD) : Nat :=
  let c0_i32_2714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2713 : BitVec 32 := 1#32
  let v2687 : BitVec 32 := Scalar.muli v92 c1_i32_2713
  let v2688 : BitVec 32 := Scalar.addi c0_i32_2714 v2687
  v2688.toNat
def k0_dev99 (d0 : Dev nD) : Nat :=
  let c0_i32_2754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2753 : BitVec 32 := 1#32
  let v2733 : BitVec 32 := Scalar.muli v92 c1_i32_2753
  let v2734 : BitVec 32 := Scalar.addi c0_i32_2754 v2733
  v2734.toNat
def k0_dev100 (d0 : Dev nD) : Nat :=
  let c0_i32_2793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2792 : BitVec 32 := 1#32
  let v2766 : BitVec 32 := Scalar.muli v62 c1_i32_2792
  let v2767 : BitVec 32 := Scalar.addi c0_i32_2793 v2766
  v2767.toNat
def k0_dev101 (d0 : Dev nD) : Nat :=
  let c0_i32_2818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2817 : BitVec 32 := 1#32
  let v2785 : BitVec 32 := Scalar.muli v62 c1_i32_2817
  let v2786 : BitVec 32 := Scalar.addi c0_i32_2818 v2785
  v2786.toNat
def k0_dev102 (d0 : Dev nD) : Nat :=
  let c0_i32_2830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2829 : BitVec 32 := 1#32
  let v2795 : BitVec 32 := Scalar.muli v92 c1_i32_2829
  let v2796 : BitVec 32 := Scalar.addi c0_i32_2830 v2795
  v2796.toNat
def k0_dev103 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2869 : BitVec 32 := 1#32
  let v2841 : BitVec 32 := Scalar.muli v92 c1_i32_2869
  let v2842 : BitVec 32 := Scalar.addi c0_i32_2870 v2841
  v2842.toNat
def k0_dev104 (d0 : Dev nD) : Nat :=
  let c0_i32_2909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2908 : BitVec 32 := 1#32
  let v2874 : BitVec 32 := Scalar.muli v62 c1_i32_2908
  let v2875 : BitVec 32 := Scalar.addi c0_i32_2909 v2874
  v2875.toNat
def k0_dev105 (d0 : Dev nD) : Nat :=
  let c0_i32_2934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2933 : BitVec 32 := 1#32
  let v2893 : BitVec 32 := Scalar.muli v62 c1_i32_2933
  let v2894 : BitVec 32 := Scalar.addi c0_i32_2934 v2893
  v2894.toNat
def k0_dev106 (d0 : Dev nD) : Nat :=
  let c0_i32_2946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2945 : BitVec 32 := 1#32
  let v2903 : BitVec 32 := Scalar.muli v92 c1_i32_2945
  let v2904 : BitVec 32 := Scalar.addi c0_i32_2946 v2903
  v2904.toNat
def k0_dev107 (d0 : Dev nD) : Nat :=
  let c0_i32_2986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2985 : BitVec 32 := 1#32
  let v2949 : BitVec 32 := Scalar.muli v92 c1_i32_2985
  let v2950 : BitVec 32 := Scalar.addi c0_i32_2986 v2949
  v2950.toNat
def k0_dev108 (d0 : Dev nD) : Nat :=
  let c0_i32_3025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3024 : BitVec 32 := 1#32
  let v2982 : BitVec 32 := Scalar.muli v62 c1_i32_3024
  let v2983 : BitVec 32 := Scalar.addi c0_i32_3025 v2982
  v2983.toNat
def k0_dev109 (d0 : Dev nD) : Nat :=
  let c0_i32_3050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3049 : BitVec 32 := 1#32
  let v3001 : BitVec 32 := Scalar.muli v62 c1_i32_3049
  let v3002 : BitVec 32 := Scalar.addi c0_i32_3050 v3001
  v3002.toNat
def k0_dev110 (d0 : Dev nD) : Nat :=
  let c0_i32_3062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3061 : BitVec 32 := 1#32
  let v3011 : BitVec 32 := Scalar.muli v92 c1_i32_3061
  let v3012 : BitVec 32 := Scalar.addi c0_i32_3062 v3011
  v3012.toNat
def k0_dev111 (d0 : Dev nD) : Nat :=
  let c0_i32_3102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3101 : BitVec 32 := 1#32
  let v3057 : BitVec 32 := Scalar.muli v92 c1_i32_3101
  let v3058 : BitVec 32 := Scalar.addi c0_i32_3102 v3057
  v3058.toNat
def k0_dev112 (d0 : Dev nD) : Nat :=
  let c0_i32_3141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3140 : BitVec 32 := 1#32
  let v3090 : BitVec 32 := Scalar.muli v62 c1_i32_3140
  let v3091 : BitVec 32 := Scalar.addi c0_i32_3141 v3090
  v3091.toNat
def k0_dev113 (d0 : Dev nD) : Nat :=
  let c0_i32_3166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3165 : BitVec 32 := 1#32
  let v3109 : BitVec 32 := Scalar.muli v62 c1_i32_3165
  let v3110 : BitVec 32 := Scalar.addi c0_i32_3166 v3109
  v3110.toNat
def k0_dev114 (d0 : Dev nD) : Nat :=
  let c0_i32_3178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3177 : BitVec 32 := 1#32
  let v3119 : BitVec 32 := Scalar.muli v92 c1_i32_3177
  let v3120 : BitVec 32 := Scalar.addi c0_i32_3178 v3119
  v3120.toNat
def k0_dev115 (d0 : Dev nD) : Nat :=
  let c0_i32_3218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3217 : BitVec 32 := 1#32
  let v3165 : BitVec 32 := Scalar.muli v92 c1_i32_3217
  let v3166 : BitVec 32 := Scalar.addi c0_i32_3218 v3165
  v3166.toNat
def k0_dev116 (d0 : Dev nD) : Nat :=
  let c0_i32_3257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3256 : BitVec 32 := 1#32
  let v3198 : BitVec 32 := Scalar.muli v62 c1_i32_3256
  let v3199 : BitVec 32 := Scalar.addi c0_i32_3257 v3198
  v3199.toNat
def k0_dev117 (d0 : Dev nD) : Nat :=
  let c0_i32_3282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3281 : BitVec 32 := 1#32
  let v3217 : BitVec 32 := Scalar.muli v62 c1_i32_3281
  let v3218 : BitVec 32 := Scalar.addi c0_i32_3282 v3217
  v3218.toNat
def k0_dev118 (d0 : Dev nD) : Nat :=
  let c0_i32_3294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3293 : BitVec 32 := 1#32
  let v3227 : BitVec 32 := Scalar.muli v92 c1_i32_3293
  let v3228 : BitVec 32 := Scalar.addi c0_i32_3294 v3227
  v3228.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Program.lean ====
/-
# The kernel as a chain of ring steps

Each device runs the same schedule in two directions: `true` sends to the next device of the ring and owns the left
half of the columns, `false` sends to the previous one and owns the right half. This module writes the body as thirty
steps of that schedule (fifteen that reduce, fifteen that gather), each step in terms of the direction and of the
step's number, and proves that the printed body is that chain.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.RS

open Cert.KernelIdeal Cert.KernelIdeal.Gen
open Idealize.ShloMosaic Idealize.ShloMosaic.TcCoe
open Idealize.SL Idealize.SL.Sem

variable {F : FTy → Type} [FloatOps F]

/-- The kernel's programs. -/
abbrev PP (F : FTy → Type) : Type 1 := Prog (TpuEff nD τ sig (Elt F) Λ₀ .tc) PUnit

/-! ## Buffers and semaphores, by direction -/

abbrev xM : Memref sig .tc .vmem S4096x256 .fp8e4m3 := Memref.whole cc0_stg0_0
abbrev wM : Memref sig .tc .vmem S256x8192 .fp8e4m3 := Memref.whole cc0_stg1_0
abbrev sxM : Memref sig .tc .smem S1 .f32 := Memref.whole cc0_stg2_0
abbrev swM : Memref sig .tc .smem S1 .f32 := Memref.whole cc0_stg3_0
abbrev outM : Memref sig .tc .hbm S4096x8192 .f32 := Memref.whole main_v1
abbrev wbM : Memref sig .tc .vmem S256x8192 .bf16 := Memref.whole cc0_scratch0

/-- The buffer of two slots a direction sends from while it reduces. -/
def sndM : Bool → Memref sig .tc .vmem S2x256x4096 .bf16
  | true => Memref.whole cc0_scratch1 | false => Memref.whole cc0_scratch5
/-- The buffer of two slots a direction receives into. -/
def rcvM : Bool → Memref sig .tc .vmem S2x256x4096 .bf16
  | true => Memref.whole cc0_scratch2 | false => Memref.whole cc0_scratch6
/-- The two staging slots of the copies out. -/
def stgM : Bool → Memref sig .tc .vmem S2x256x4096 .f32
  | true => Memref.whole cc0_scratch3 | false => Memref.whole cc0_scratch7
/-- The block a device finishes itself. -/
def ownM : Bool → Memref sig .tc .vmem S256x4096 .f32
  | true => Memref.whole cc0_scratch4 | false => Memref.whole cc0_scratch8

theorem sndW (d : Bool) : (sndM d).IsWhole := by cases d <;> exact Memref.isWhole_whole _
theorem rcvW (d : Bool) : (rcvM d).IsWhole := by cases d <;> exact Memref.isWhole_whole _
theorem stgW (d : Bool) : (stgM d).IsWhole := by cases d <;> exact Memref.isWhole_whole _
theorem ownW (d : Bool) : (ownM d).IsWhole := by cases d <;> exact Memref.isWhole_whole _

def sndSems : Bool → DmaSems sig S2 | true => cc0_scratch9 | false => cc0_scratch14
def rcvSems : Bool → DmaSems sig S2 | true => cc0_scratch10 | false => cc0_scratch15
def outSems : Bool → DmaSems sig S2 | true => cc0_scratch11 | false => cc0_scratch16
def ownSem : Bool → DmaSem sig | true => cc0_scratch12.sem | false => cc0_scratch17.sem
def credSem : Bool → Sem sig | true => cc0_scratch13.sem | false => cc0_scratch18.sem
def barSem : Sem sig := (SemArray.scalar (sig.barrier 0 rfl) : Sems sig S_).sem

/-- Where a direction sends to. -/
def toD : Bool → Dev nD → Dev nD
  | true, c => ⟨k0_dev1 c, k0_dev1_lt c⟩ | false, c => ⟨k0_dev2 c, k0_dev2_lt c⟩

/-- The slot of step `t`. -/
def par (t : ℕ) : Fin 2 := ⟨t % 2, Nat.mod_lt _ (by decide)⟩

theorem slot_inb (s : Fin 2) : ∀ a, (![s.val, 0, 0] : Fin 3 → ℕ) a + S1x256x4096.size a ≤ S2x256x4096.size a := by
  revert s; decide
/-- Slot `s` of a buffer of two. -/
abbrev slotR (s : Fin 2) : Rect S2x256x4096 := Rect.unit (s := S2x256x4096) ![s.val, 0, 0] S1x256x4096.size (slot_inb s)

theorem sem_inb (s : Fin 2) : ∀ a, (![s.val] : Fin 1 → ℕ) a + S1.size a ≤ S2.size a := by
  revert s; decide
/-- Semaphore `s` of a pair. -/
def semAt (a : DmaSems sig S2) (s : Fin 2) : DmaSem sig :=
  ((a.slice (Rect.unit (s := S2) ![s.val] S1.size (sem_inb s))).squeeze S_ squeezes_S1_S_).sem

/-- Slot `s` of a buffer, as a block. -/
abbrev blk {e : EltTy} (m : Memref sig .tc .vmem S2x256x4096 e) (s : Fin 2) : Memref sig .tc .vmem S256x4096 e :=
  (m.slice (slotR s) (fun _ => rfl)).squeeze S256x4096 squeezes_S1x256x4096_S256x4096

theorem wordsAt (s : Fin 2) : (slotR s).WholeWords (EltTy.packing .bf16) := by
  match s with
  | 0 => exact wordsbf16_S2x256x4096_S1x256x4096_0_0_0
  | 1 => exact wordsbf16_S2x256x4096_S1x256x4096_1_0_0
theorem packedAt (s : Fin 2) : (slotR s).PackedRows (EltTy.packing .bf16) := by
  match s with
  | 0 => exact packedbf16_S2x256x4096_S1x256x4096_0_0_0
  | 1 => exact packedbf16_S2x256x4096_S1x256x4096_1_0_0

theorem col_inb (d : Bool) : ∀ a, (![0, if d then 0 else 4096] : Fin 2 → ℕ) a + S256x4096.size a ≤ S256x8192.size a := by
  revert d; decide
/-- The columns of a direction. -/
abbrev colR (d : Bool) : Rect S256x8192 := Rect.unit (s := S256x8192) ![0, if d then 0 else 4096] S256x4096.size (col_inb d)

/-! ## Offsets -/

/-- Row offset in `x` of the chunk a direction multiplies at step `t` of the reduction (for the next step). -/
def xOff (c : Dev nD) : Bool → ℕ → Fin 2 → ℕ
  | true, t => k0_off2 c (BitVec.ofNat 32 (1 + t % 15)) | false, t => k0_off3 c (BitVec.ofNat 32 (1 + t % 15))
theorem xOff_inb (c : Dev nD) (d : Bool) (t : ℕ) : ∀ a, xOff c d t a + S256x256.size a ≤ S4096x256.size a := by
  cases d
  · exact k0_off3_inb c ⟨t % 15, Nat.mod_lt _ (by decide)⟩
  · exact k0_off2_inb c ⟨t % 15, Nat.mod_lt _ (by decide)⟩
/-- Where in the result the block landed at step `15 + r` goes. -/
def oOff (c : Dev nD) : Bool → ℕ → Fin 2 → ℕ
  | true, r => k0_off6 c (BitVec.ofNat 32 (r % 15)) | false, r => k0_off7 c (BitVec.ofNat 32 (r % 15))
theorem oOff_inb (c : Dev nD) (d : Bool) (r : ℕ) : ∀ a, oOff c d r a + S256x4096.size a ≤ S4096x8192.size a := by
  cases d
  · exact k0_off7_inb c ⟨r % 15, Nat.mod_lt _ (by decide)⟩
  · exact k0_off6_inb c ⟨r % 15, Nat.mod_lt _ (by decide)⟩
/-- Where in the result the block finished here goes. -/
def wOff (c : Dev nD) : Bool → Fin 2 → ℕ | true => k0_off4 c | false => k0_off5 c
theorem wOff_inb (c : Dev nD) (d : Bool) : ∀ a, wOff c d a + S256x4096.size a ≤ S4096x8192.size a := by
  cases d
  · exact k0_off5_inb c
  · exact k0_off4_inb c

/-- The block of `x` at an offset. -/
abbrev xR (o : Fin 2 → ℕ) (h : ∀ a, o a + S256x256.size a ≤ S4096x256.size a) : Rect S4096x256 :=
  Rect.unit (s := S4096x256) o S256x256.size h
/-- The block of the result at an offset. -/
abbrev oR (o : Fin 2 → ℕ) (h : ∀ a, o a + S256x4096.size a ≤ S4096x8192.size a) : Rect S4096x8192 :=
  Rect.unit (s := S4096x8192) o S256x4096.size h
/-- A block of the result as a view. -/
abbrev oV (o : Fin 2 → ℕ) (h : ∀ a, o a + S256x4096.size a ≤ S4096x8192.size a) : Memref sig .tc .hbm S256x4096 .f32 :=
  outM.slice (oR o h) (fun _ => rfl)

/-! ## Single operations -/

theorem blkWords (m : Memref sig .tc .vmem S2x256x4096 .bf16) (h : m.IsWhole) (s : Fin 2) : (blk m s).view.WordExact :=
  (h.wordExact_slice rfl _ (wordsAt s)).reshape _ _

theorem stgWords (m : Memref sig .tc .vmem S2x256x4096 .f32) (s : Fin 2) : (blk m s).view.WordExact :=
  (View.wordExact_bits rfl).reshape _ _

/-- Send the block in slot `s` of `m` into slot `s'` of the receive buffer of the direction's target. -/
def send (d : Bool) (m : Memref sig .tc .vmem S2x256x4096 .bf16) (h : m.IsWhole) (s s' : Fin 2) (c : Dev nD) (k : PP F) : PP F :=
  .op (.enqueueDma (blk m s) (.remote (Dev.tc (toD d c)) (blk (rcvM d) s') (.dma (semAt (sndSems d) s'))) (.dma (semAt (rcvSems d) s'))
    (blkWords m h s) (blkWords _ (rcvW d) s') ⟨⟨rfl, Or.inl rfl⟩, trivial⟩) (fun _ => k)

/-- Wait for the send and then for the arrival of a step. -/
def waits (d : Bool) (m : Memref sig .tc .vmem S2x256x4096 .bf16) (h : m.IsWhole) (s s' : Fin 2) (k : PP F) : PP F :=
  .op (.waitDma2 (semAt (sndSems d) s') (blk (rcvM d) s') (blk m s) (blkWords _ (rcvW d) s') (blkWords m h s)) fun _ =>
  .op (.waitDma2 (semAt (rcvSems d) s') (blk m s) (blk (rcvM d) s') (blkWords m h s) (blkWords _ (rcvW d) s')) fun _ => k

/-- Wait for one credit. -/
def credit (d : Bool) (k : PP F) : PP F := .op (.semWait (credSem d) (BitVec.toInt 1#32)) fun _ => k

/-- Give one credit to the device this direction receives from. -/
def grant (d : Bool) (c : Dev nD) (k : PP F) : PP F :=
  .op (.semSignal (Dev.tc (toD (!d) c)) (credSem d) (BitVec.toInt 1#32)) fun _ => k

/-- Load a slot. -/
def ldSlot {e : EltTy} (m : Memref sig .tc .vmem S2x256x4096 e) (s : Fin 2) (k : Vec F S1x256x4096 e → PP F) : PP F :=
  .op (.load m (slotR s).toLoadRect (View.loadsAt_vmem h_S1x256x4096)) k

/-- Store a slot (after a load of it that nothing reads). -/
def stSlot (m : Memref sig .tc .vmem S2x256x4096 .bf16) (h : m.IsWhole) (s : Fin 2) (v : FVec F S1x256x4096 .bf16) (k : PP F) : PP F :=
  ldSlot m s fun _ =>
  .op (.store m (slotR s) v Finset.univ (View.stores_vmem h_S1x256x4096 (h.storeExact_slice rfl _ (packedAt s)) (fun _ => rfl)) (.inl rfl)) fun _ => k

/-- Load a chunk of `x` and the columns of `w`. -/
def chunk (d : Bool) (o : Fin 2 → ℕ) (ho : ∀ a, o a + S256x256.size a ≤ S4096x256.size a)
    (k : Vec F S256x256 .fp8e4m3 → Vec F S256x4096 .bf16 → PP F) : PP F :=
  .op (.load xM (xR o ho).toLoadRect (View.loadsAt_vmem h_S256x256)) fun x =>
  .op (.load wbM (colR d).toLoadRect (View.loadsAt_vmem h_S256x4096)) fun w => k x w

/-! ## Steps -/

/-- The sends of step `t`, after the credits from step two on. -/
def sends (m : Bool → Memref sig .tc .vmem S2x256x4096 .bf16) (h : ∀ d, (m d).IsWhole) (s : Fin 2) (t : ℕ) (c : Dev nD) (k : PP F) : PP F :=
  if 2 ≤ t then credit true (send true (m true) (h true) s (par t) c (credit false (send false (m false) (h false) s (par t) c k)))
  else send true (m true) (h true) s (par t) c (send false (m false) (h false) s (par t) c k)

/-- A direction's second half of a reduction step: wait, add what arrived to the chunk product, keep it for the next step. -/
def reduceHalf (d : Bool) (t : ℕ) (c : Dev nD) (x : Vec F S256x256 .fp8e4m3) (w : Vec F S256x4096 .bf16) (k : PP F) : PP F :=
  waits d (sndM d) (sndW d) (par t) (par t) <|
  ldSlot (rcvM d) (par t) fun r =>
  stSlot (sndM d) (sndW d) (par (t + 1)) (k0_pay8 (k0_pay5 x w) r) <|
  grant d c k

/-- Step `t < 14` of the reduction. -/
def reduceStep (c : Dev nD) (t : ℕ) (k : PP F) : PP F :=
  sends sndM sndW (par t) t c <|
  chunk true (xOff c true t) (xOff_inb c true t) fun xa wa =>
  chunk false (xOff c false t) (xOff_inb c false t) fun xb wb =>
  reduceHalf true t c xa wa <| reduceHalf false t c xb wb k

/-- The last reduction step of a direction: the sum is complete, scaled and clipped. -/
def finishHalf (d : Bool) (c : Dev nD) (sc : F .f32) (x : Vec F S256x256 .fp8e4m3) (w : Vec F S256x4096 .bf16) (k : PP F) : PP F :=
  waits d (sndM d) (sndW d) (par 14) (par 14) <|
  ldSlot (rcvM d) (par 14) fun r =>
  .op (.load (ownM d) (Rect.unit (s := S256x4096) ![0, 0] S256x4096.size inb_S256x4096_S256x4096_0_0).toLoadRect (View.loadsAt_vmem h_S256x4096)) fun _ =>
  .op (.store (ownM d) (Rect.unit (s := S256x4096) ![0, 0] S256x4096.size inb_S256x4096_S256x4096_0_0) (k0_pay78 sc (k0_pay5 x w) r) Finset.univ
    (View.stores_vmem_bits_univ h_S256x4096 rfl) (.inl rfl)) fun _ =>
  stSlot (sndM d) (sndW d) (par 15) (k0_pay79 sc (k0_pay5 x w) r) <|
  grant d c k

/-- Copy a direction's finished block out. -/
def ownOut (d : Bool) (c : Dev nD) (k : PP F) : PP F :=
  .op (.enqueueDma (ownM d) (.here (oV (wOff c d) (wOff_inb c d))) (.dma (ownSem d)) (ownW d).wordExact (View.wordExact_bits rfl) ⟨Or.inl rfl, trivial⟩) fun _ => k

/-- Step 14 of the reduction. -/
def finishStep (c : Dev nD) (sc : F .f32) (k : PP F) : PP F :=
  sends sndM sndW (par 14) 14 c <|
  chunk true (xOff c true 14) (xOff_inb c true 14) fun xa wa =>
  chunk false (xOff c false 14) (xOff_inb c false 14) fun xb wb =>
  finishHalf true c sc xa wa <| finishHalf false c sc xb wb <|
  ownOut true c <| ownOut false c k

/-- Wait for the copy out of step `15 + r`. -/
def outWait (d : Bool) (c : Dev nD) (r : ℕ) (k : PP F) : PP F :=
  .op (.waitDma2 (semAt (outSems d) (par (15 + r))) (blk (stgM d) (par (15 + r))) (oV (oOff c d r) (oOff_inb c d r))
    (stgWords _ _) (View.wordExact_bits rfl)) fun _ => k

/-- Stage the block of step `15 + r` and copy it out. -/
def stageOut (d : Bool) (c : Dev nD) (r : ℕ) (k : PP F) : PP F :=
  ldSlot (rcvM d) (par (15 + r)) fun v =>
  ldSlot (stgM d) (par (15 + r)) fun _ =>
  .op (.store (stgM d) (slotR (par (15 + r))) (k0_pay80 v) Finset.univ
    (View.stores_vmem_bits_univ h_S1x256x4096 rfl) (.inl rfl)) fun _ =>
  .op (.enqueueDma (blk (stgM d) (par (15 + r))) (.here (oV (oOff c d r) (oOff_inb c d r))) (.dma (semAt (outSems d) (par (15 + r))))
    (stgWords _ _) (View.wordExact_bits rfl) ⟨Or.inl rfl, trivial⟩) fun _ => k

/-- What a step of the gathering sends from: at first the finished block, then what arrived the step before. -/
def srcM (r : ℕ) : Bool → Memref sig .tc .vmem S2x256x4096 .bf16 := if r = 0 then sndM else rcvM
theorem srcW (r : ℕ) (d : Bool) : (srcM r d).IsWhole := by
  unfold srcM; split
  · exact sndW d
  · exact rcvW d

/-- A direction's second half of gathering step `15 + r`. -/
def gatherHalf (d : Bool) (c : Dev nD) (r : ℕ) (k : PP F) : PP F :=
  waits d (srcM r d) (srcW r d) (par (14 + r + if r = 0 then 1 else 0)) (par (15 + r)) <|
  (if 1 ≤ r ∧ r ≤ 13 then grant d c else id) <|
  (if 2 ≤ r then outWait d c (r - 2) else id) <|
  stageOut d c r k

/-- Gathering step `15 + r`. -/
def gatherStep (c : Dev nD) (r : ℕ) (k : PP F) : PP F :=
  sends (srcM r) (srcW r) (par (14 + r + if r = 0 then 1 else 0)) (15 + r) c <|
  gatherHalf true c r <| gatherHalf false c r k

/-- `f a (f (a + 1) (… k))`, `n` times. -/
def iter (f : ℕ → PP F → PP F) : ℕ → ℕ → PP F → PP F
  | 0, _, k => k
  | n + 1, a, k => f a (iter f n (a + 1) k)

/-! ## Start and end -/

/-- The entry barrier: signal both neighbours, wait for both. -/
def barrier (c : Dev nD) (k : PP F) : PP F :=
  .op (.semSignal (Dev.tc (toD true c)) barSem (BitVec.toInt 1#32)) fun _ =>
  .op (.semSignal (Dev.tc (toD false c)) barSem (BitVec.toInt 1#32)) fun _ =>
  .op (.semWait barSem (BitVec.toInt 2#32)) fun _ => k

/-- Widen `w`. -/
def widen (k : PP F) : PP F :=
  .op (.load wM (Rect.unit (s := S256x8192) ![0, 0] S256x8192.size inb_S256x8192_S256x8192_0_0).toLoadRect (View.loadsAt_vmem h_S256x8192)) fun v =>
  .op (.load wbM (Rect.unit (s := S256x8192) ![0, 0] S256x8192.size inb_S256x8192_S256x8192_0_0).toLoadRect (View.loadsAt_vmem h_S256x8192)) fun _ =>
  .op (.store wbM (Rect.unit (s := S256x8192) ![0, 0] S256x8192.size inb_S256x8192_S256x8192_0_0) (k0_pay1 v) Finset.univ
    (View.stores_vmem h_S256x8192 ((Memref.isWhole_whole _).storeExact_slice rfl _ packedbf16_S256x8192_S256x8192_0_0) (fun _ => rfl)) (.inl rfl)) fun _ => k

/-- The first chunk product of a direction. -/
def firstChunk (d : Bool) (c : Dev nD) (k : PP F) : PP F :=
  chunk d (k0_off1 c) (k0_off1_inb c) fun x w => stSlot (sndM d) (sndW d) (par 0) (k0_pay2 x w) k

/-- Read the two scales. -/
def scales (k : F .f32 → PP F) : PP F :=
  .op (.load sxM (Rect.unit (s := S1) ![0] S1.size inb_S1_S1_0).toLoadRect (View.loadsAt_rect (View.loads_smem_one rfl numel1_S1))) fun a =>
  .op (.load swM (Rect.unit (s := S1) ![0] S1.size inb_S1_S1_0).toLoadRect (View.loadsAt_rect (View.loads_smem_one rfl numel1_S1))) fun b =>
  k (k0_pay4 (a (Shape.Idx.first (numel1_S1.symm ▸ Nat.one_pos))) (b (Shape.Idx.first (numel1_S1.symm ▸ Nat.one_pos))))

/-- The copies out that are still in flight at the end. -/
def drain (c : Dev nD) (k : PP F) : PP F :=
  outWait true c 13 <| outWait true c 14 <| outWait false c 13 <| outWait false c 14 <|
  .op (.waitDma2 (ownSem true) (ownM true) (oV (wOff c true) (wOff_inb c true)) (ownW true).wordExact (View.wordExact_bits rfl)) fun _ =>
  .op (.waitDma2 (ownSem false) (ownM false) (oV (wOff c false) (wOff_inb c false)) (ownW false).wordExact (View.wordExact_bits rfl)) fun _ => k

/-- The body on device `c`. -/
def ringProg (c : Dev nD) : PP F :=
  barrier c <| widen <| firstChunk true c <| firstChunk false c <| scales fun sc =>
  iter (reduceStep c) 14 0 <| finishStep c sc <| iter (gatherStep c) 15 0 <| drain c (.ret ⟨⟩)

set_option maxRecDepth 100000 in
set_option maxHeartbeats 0 in
/-- The printed body is the chain of steps. -/
theorem body_eq (t : Fin cfg0.N) : bodyAt0 (F := F) t = .op .deviceId fun c => ringProg c := rfl

end Cert.KernelIdeal.RS

end
-- ==== Proof.KernelIdeal.Protocol.lean ====
/-
# The protocol of the ring

What the devices promise each other. A direction sends thirty times into two receive slots of its target, slot `t % 2`
at step `t`. Eleven counters of a device follow the schedule below: the entry barrier, per direction one credit
counter, two counters for sends that have been read out, and two for blocks that have arrived. A receive slot passes
from its reader back to its writer through an invariant; the fact that it has been given back travels with the
barrier (for the first two steps) and with the credits (from then on).
-/
module

public import proofs.«01_k».proof.Proof.KernelIdeal.Program
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Tactic

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv)

variable {F : FTy → Type} [FloatOps F]

/-! ## Ghost state -/

/-- A receive slot: its device, direction and number. -/
abbrev Key : Type := Dev nD × Bool × Fin 2
abbrev UB : Type := URounds (GSem nD τ sig) ℕ
abbrev US : Type := Release.USlots Key
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev EX : Emb (UB × (US × Counters)) (MT nD τ sig ℕ (Elt F) ℕ UU ℕ) := embR
/-- The schedule's records. -/
def ER : Emb UB (MT nD τ sig ℕ (Elt F) ℕ UU ℕ) := (Emb.inl : Emb UB (UB × (US × Counters))).trans EX
/-- The slots' records. -/
def ES : Emb US (MT nD τ sig ℕ (Elt F) ℕ UU ℕ) :=
  ((Emb.inl : Emb US (US × Counters)).trans (Emb.inr : Emb (US × Counters) (UB × (US × Counters)))).trans EX
/-- The device's own copies. -/
abbrev EC : UEmb Counters (MT nD τ sig ℕ (Elt F) ℕ UU ℕ) := countersEmb (U := UU)

instance ER_lands : (ER (F := F)).LandsIn (upEmb : UEmb _ 𝕄) := by unfold ER; infer_instance
instance ES_lands : (ES (F := F)).LandsIn (upEmb : UEmb _ 𝕄) := by unfold ES; infer_instance

/-! ## The ring -/

theorem to_back (d : Bool) (c : Dev nD) : toD (!d) (toD d c) = c := by revert d c; decide
theorem to_back' (d : Bool) (c : Dev nD) : toD d (toD (!d) c) = c := by revert d c; decide

/-- One step around the ring. -/
def ring (d : Bool) : Dev nD ≃ Dev nD := ⟨toD d, toD (!d), to_back d, to_back' d⟩

/-! ## The counters -/

abbrev barCell (c : Dev nD) : GSem nD τ sig := ((c : Thread nD τ), .reg barSem)
abbrev credCell (d : Bool) (c : Dev nD) : GSem nD τ sig := ((c : Thread nD τ), .reg (credSem d))
abbrev sndCell (d : Bool) (c : Dev nD) (s : Fin 2) : GSem nD τ sig := ((c : Thread nD τ), .dma (semAt (sndSems d) s))
abbrev rcvCell (d : Bool) (c : Dev nD) (s : Fin 2) : GSem nD τ sig := ((c : Thread nD τ), .dma (semAt (rcvSems d) s))

/-- What a counter is for. -/
inductive Use | bar | cred (d : Bool) | snd (d : Bool) (s : Fin 2) | rcv (d : Bool) (s : Fin 2) | other
  deriving DecidableEq

/-- The use of each counter. -/
def use : SemLoc sig → Use
  | .reg q => match q.val with | 0 => .cred true | 1 => .cred false | 2 => .bar | _ => .other
  | .dma q => match q.val with
    | 4 => .snd true 0 | 5 => .snd true 1 | 6 => .rcv true 0 | 7 => .rcv true 1
    | 11 => .snd false 0 | 12 => .snd false 1 | 13 => .rcv false 0 | 14 => .rcv false 1 | _ => .other

theorem use_bar : use (.reg barSem) = .bar := rfl
theorem use_cred (d : Bool) : use (.reg (credSem d)) = .cred d := by cases d <;> rfl
theorem use_snd (d : Bool) (s : Fin 2) : use (.dma (semAt (sndSems d) s)) = .snd d s := by revert d s; decide
theorem use_rcv (d : Bool) (s : Fin 2) : use (.dma (semAt (rcvSems d) s)) = .rcv d s := by revert d s; decide

/-- The units of one block. -/
@[irreducible] def NB : ℕ := (blk (rcvM true) 0).view.dmaCredit
theorem NB_pos : 0 < NB := by unfold NB; exact View.dmaCredit_pos _ (by decide)

/-! ## Contents -/

/-- What the devices start from: the staged block of `x`, the staged rows of `w`, the two scales. -/
structure Ins (F : FTy → Type) where
  x : Dev nD → (cc0_stg0_0 : Ref sig .tc).ty.Contents (Elt F)
  w : Dev nD → (cc0_stg1_0 : Ref sig .tc).ty.Contents (Elt F)
  sx : Dev nD → (cc0_stg2_0 : Ref sig .tc).ty.Contents (Elt F)
  sw : Dev nD → (cc0_stg3_0 : Ref sig .tc).ty.Contents (Elt F)

variable (I : Ins F)

/-- A chunk of `x`. -/
def xAt (c : Dev nD) (o : Fin 2 → ℕ) (ho : ∀ a, o a + S256x256.size a ≤ S4096x256.size a) : Vec F S256x256 .fp8e4m3 :=
  (xM.access (xR o ho)).read (Elt F) (I.x c)
/-- The widened `w`. -/
def wbC (c : Dev nD) : (cc0_scratch0 : Ref sig .tc).ty.Contents (Elt F) :=
  k0_pay1 ((wM.access (Rect.unit (s := S256x8192) ![0, 0] S256x8192.size inb_S256x8192_S256x8192_0_0)).read (Elt F) (I.w c))
/-- A direction's columns of it. -/
def wAt (c : Dev nD) (d : Bool) : Vec F S256x4096 .bf16 := (wbM.access (colR d)).read (Elt F) (wbC I c)
/-- The product of the scales. -/
def scAt (c : Dev nD) : F .f32 :=
  k0_pay4
    ((sxM.access (Rect.unit (s := S1) ![0] S1.size inb_S1_S1_0)).read (Elt F) (I.sx c) (Shape.Idx.first (numel1_S1.symm ▸ Nat.one_pos)))
    ((swM.access (Rect.unit (s := S1) ![0] S1.size inb_S1_S1_0)).read (Elt F) (I.sw c) (Shape.Idx.first (numel1_S1.symm ▸ Nat.one_pos)))
/-- The chunk product of step `t`. -/
def prodAt (c : Dev nD) (d : Bool) (t : ℕ) : FVec F S256x4096 .f32 := k0_pay5 (xAt I c (xOff c d t) (xOff_inb c d t)) (wAt I c d)

/-- What device `c` sends in direction `d` at step `t`. -/
def V (d : Bool) : ℕ → Dev nD → Vec F S1x256x4096 .bf16
  | 0, c => k0_pay2 (xAt I c (k0_off1 c) (k0_off1_inb c)) (wAt I c d)
  | t + 1, c =>
    if t < 14 then k0_pay8 (prodAt I c d t) (V d t (toD (!d) c))
    else if t = 14 then k0_pay79 (scAt I c) (prodAt I c d 14) (V d t (toD (!d) c))
    else V d t (toD (!d) c)
/-- The block device `c` finishes itself. -/
def fin (d : Bool) (c : Dev nD) : FVec F S256x4096 .f32 := k0_pay78 (scAt I c) (prodAt I c d 14) (V I d 14 (toD (!d) c))

/-! ## Slots -/

variable {e : EltTy}

/-- A slot, at any contents. -/
def slotAny (m : Memref sig .tc .vmem S2x256x4096 e) (s : Fin 2) (c : Dev nD) : sProp 𝕄 :=
  iprop(∃ f, ((m.access (slotR s)).loc (c : Thread nD τ) ↦[(m.access (slotR s)).set]{fullShare} f))
/-- A slot that holds `v`. -/
def slotAt (m : Memref sig .tc .vmem S2x256x4096 e) (s : Fin 2) (c : Dev nD) (v : Vec F S1x256x4096 e) : sProp 𝕄 :=
  iprop(∃ f, ((m.access (slotR s)).loc (c : Thread nD τ) ↦[(m.access (slotR s)).set]{fullShare} f) ∗ ⌜(m.access (slotR s)).read (Elt F) f = v⌝)

omit [FloatOps F] in
instance slotAny_storable (m : Memref sig .tc .vmem S2x256x4096 e) (s c) : Storable (upEmb : UEmb _ 𝕄) (slotAny (F := F) m s c) := by
  unfold slotAny; infer_instance
omit [FloatOps F] in
instance slotAt_storable (m : Memref sig .tc .vmem S2x256x4096 e) (s c) (v : Vec F S1x256x4096 e) : Storable (upEmb : UEmb _ 𝕄) (slotAt m s c v) := by
  unfold slotAt; infer_instance

omit [FloatOps F] in
theorem slotAt_any (m : Memref sig .tc .vmem S2x256x4096 e) (s c) (v : Vec F S1x256x4096 e) : slotAt m s c v ⊢ (slotAny m s c : sProp 𝕄) := by
  unfold slotAt slotAny
  iintro ⟨%f, H, -⟩
  iexists f; iexact H

omit [FloatOps F] in
theorem slot_false (m : Memref sig .tc .vmem S2x256x4096 e) (s c) : iprop(slotAny m s c ∗ slotAny m s c) ⊢ (False : sProp 𝕄) := by
  have h : (m.access (slotR s)).set.Nonempty := by
    rw [← Finset.card_pos, View.card_set]; revert s; decide
  exact Release.slot_slot_false h

/-! ## The facts that travel -/

/-- Device `e` has given back the receive slot of step `t`, and its counter has reached that step's round. -/
def relF (d : Bool) (e : Dev nD) (t : ℕ) : sProp 𝕄 :=
  iprop(released ES (e, d, par t) (t / 2 + 1) ∗ reached ER (rcvCell d e (par t)) (t / 2))
/-- The same for all steps before `n`. -/
def relAll (d : Bool) (e : Dev nD) (n : ℕ) : sProp 𝕄 := bigSep (Finset.range n) (fun t => relF d e t)

omit [FloatOps F] in
instance relF_persistent (d e t) : BI.Persistent (relF (F := F) d e t) := by unfold relF; infer_instance
omit [FloatOps F] in
instance relAll_persistent (d e n) : BI.Persistent (relAll (F := F) d e n) := by unfold relAll; infer_instance
omit [FloatOps F] in
instance relF_storable (d e t) : Storable (upEmb : UEmb _ 𝕄) (relF (F := F) d e t) := by unfold relF; infer_instance
omit [FloatOps F] in
instance relAll_storable (d e n) : Storable (upEmb : UEmb _ 𝕄) (relAll (F := F) d e n) := by unfold relAll; infer_instance

omit [FloatOps F] in
theorem relAll_at (d : Bool) (e : Dev nD) {n t : ℕ} (h : t < n) : relAll d e n ⊢ (relF d e t : sProp 𝕄) :=
  bigSep_elim (Φ := fun t => relF d e t) (Finset.mem_range.mpr h)
omit [FloatOps F] in
theorem relAll_succ (d : Bool) (e : Dev nD) (n : ℕ) : iprop(relAll d e n ∗ relF d e n) ⊢ (relAll d e (n + 1) : sProp 𝕄) := by
  have h : iprop(relF d e n ∗ relAll d e n) ⊢ (relAll d e (n + 1) : sProp 𝕄) :=
    Entails.of_eq (by unfold relAll; rw [Finset.range_add_one, bigSep_insert Finset.notMem_range_self]; rfl)
  iintro ⟨H, H'⟩
  iapply h
  isplitl [H'] <;> iassumption

/-! ## The schedule -/

/-- What a send hands back once its block has been read out: the slot it was read from. -/
def sndBack (d : Bool) (c : Dev nD) (s : Fin 2) (r : ℕ) : sProp 𝕄 :=
  if 2 * r + s.val ≤ 15 then slotAny (sndM d) s c else slotAny (rcvM d) (par (2 * r + s.val + 1)) c
omit [FloatOps F] in
instance sndBack_storable (d c s r) : Storable (upEmb : UEmb _ 𝕄) (sndBack (F := F) d c s r) := by unfold sndBack; split <;> infer_instance

/-- What a neighbour's signal at the entry barrier brings. -/
def barPay (c : Dev nD) (k : ℕ) : sProp 𝕄 := if k = 0 then relAll true (toD true c) 2 else relAll false (toD false c) 2
omit [FloatOps F] in
instance barPay_storable (c k) : Storable (upEmb : UEmb _ 𝕄) (barPay (F := F) c k) := by
  unfold barPay; by_cases h : k = 0
  · rw [if_pos h]; infer_instance
  · rw [if_neg h]; infer_instance

def payOf (I : Ins F) (c : Dev nD) (r k : ℕ) : Use → sProp 𝕄
  | .bar => barPay c k
  | .cred d => relAll d (toD d c) (k + 3)
  | .snd d s => sndBack d c s r
  | .rcv d s => slotAt (rcvM d) s c (V I d (2 * r + s.val) (toD (!d) c))
  | .other => iprop(emp)
instance payOf_storable (c r k u) : Storable (upEmb : UEmb _ 𝕄) (payOf I c r k u) := by
  cases u <;> unfold payOf <;> infer_instance

def dutOf (r : ℕ) : Use → Finset ℕ
  | .bar => if r = 0 then {0, 1} else ∅
  | .cred _ => if r = 0 then Finset.range 28 else ∅
  | .snd _ _ | .rcv _ _ => if r < 15 then {0} else ∅
  | .other => ∅
def amtOf : Use → ℕ
  | .snd _ _ | .rcv _ _ => NB
  | _ => 1

theorem amtOf_pos (u : Use) : 0 < amtOf u := by
  cases u <;> simp only [amtOf] <;> first | exact NB_pos | exact Nat.one_pos

/-- The schedule. -/
def Rd : Rounds.Schedule (GSem nD τ sig) ℕ 𝕄 where
  duties g r := if g.1.2 = .tc then dutOf r (use g.2) else ∅
  unitless _ := False
  amount g _ _ := amtOf (use g.2)
  payload g r k := payOf I g.1.1 r k (use g.2)
  amount_pos g _ _ _ := by
    exact amtOf_pos _

instance Rd_storable (g : GSem nD τ sig) (r k : ℕ) : Storable (upEmb : UEmb _ 𝕄) ((Rd I).payload g r k) :=
  payOf_storable I _ _ _ _

theorem duties_bar (c : Dev nD) : (Rd I).duties (barCell c) 0 = {0, 1} := rfl
theorem duties_cred (d : Bool) (c : Dev nD) : (Rd I).duties (credCell d c) 0 = Finset.range 28 := by
  show dutOf 0 (use _) = _; rw [use_cred]; rfl
theorem duties_snd (d : Bool) (c : Dev nD) (s : Fin 2) {r : ℕ} (h : r < 15) : (Rd I).duties (sndCell d c s) r = {0} := by
  show dutOf r (use _) = _; rw [use_snd]; exact if_pos h
theorem duties_rcv (d : Bool) (c : Dev nD) (s : Fin 2) {r : ℕ} (h : r < 15) : (Rd I).duties (rcvCell d c s) r = {0} := by
  show dutOf r (use _) = _; rw [use_rcv]; exact if_pos h
theorem amount_bar (c : Dev nD) (r k) : (Rd I).amount (barCell c) r k = 1 := rfl
theorem amount_cred (d : Bool) (c : Dev nD) (r k) : (Rd I).amount (credCell d c) r k = 1 := by
  show amtOf (use _) = _; rw [use_cred]; rfl
theorem amount_snd (d : Bool) (c : Dev nD) (s : Fin 2) (r k) : (Rd I).amount (sndCell d c s) r k = NB := by
  show amtOf (use _) = _; rw [use_snd]; rfl
theorem amount_rcv (d : Bool) (c : Dev nD) (s : Fin 2) (r k) : (Rd I).amount (rcvCell d c s) r k = NB := by
  show amtOf (use _) = _; rw [use_rcv]; rfl
theorem expect_bar (c : Dev nD) : (Rd I).expect (barCell c) 0 = 2 := by
  unfold Schedule.expect Schedule.amountOf
  rw [duties_bar]; rfl
theorem expect_cred (d : Bool) (c : Dev nD) : (Rd I).expect (credCell d c) 0 = 28 := by
  unfold Schedule.expect Schedule.amountOf
  rw [duties_cred, Finset.sum_congr rfl fun k _ => amount_cred I d c 0 k, Finset.sum_const, Finset.card_range, smul_eq_mul]
theorem expect_snd (d : Bool) (c : Dev nD) (s : Fin 2) {r : ℕ} (h : r < 15) : (Rd I).expect (sndCell d c s) r = NB := by
  unfold Schedule.expect Schedule.amountOf
  rw [duties_snd I d c s h, Finset.sum_singleton, amount_snd]
theorem expect_rcv (d : Bool) (c : Dev nD) (s : Fin 2) {r : ℕ} (h : r < 15) : (Rd I).expect (rcvCell d c s) r = NB := by
  unfold Schedule.expect Schedule.amountOf
  rw [duties_rcv I d c s h, Finset.sum_singleton, amount_rcv]
theorem payload_bar (d : Bool) (c : Dev nD) : (Rd I).payload (barCell c) 0 (if d then 0 else 1) = relAll d (toD d c) 2 := by
  cases d <;> rfl
theorem payload_cred (d : Bool) (c : Dev nD) (k : ℕ) : (Rd I).payload (credCell d c) 0 k = relAll d (toD d c) (k + 3) := by
  show payOf I _ _ _ (use _) = _; rw [use_cred]; rfl
theorem payload_snd (d : Bool) (c : Dev nD) (s : Fin 2) (r k : ℕ) : (Rd I).payload (sndCell d c s) r k = sndBack d c s r := by
  show payOf I _ _ _ (use _) = _; rw [use_snd]; rfl
theorem payload_rcv (d : Bool) (c : Dev nD) (s : Fin 2) (r k : ℕ) :
    (Rd I).payload (rcvCell d c s) r k = slotAt (rcvM d) s c (V I d (2 * r + s.val) (toD (!d) c)) := by
  show payOf I _ _ _ (use _) = _; rw [use_rcv]; rfl
/-- No round after the last. -/
theorem duties_later (g : GSem nD τ sig) (r : ℕ) (h : 15 ≤ r) : (Rd I).duties g r = ∅ := by
  show (if g.1.2 = .tc then dutOf r (use g.2) else ∅) = ∅
  split
  · cases use g.2 <;> unfold dutOf <;> first | rfl | exact if_neg (by omega)
  · rfl
theorem duties_one (g : GSem nD τ sig) (r : ℕ) (h : 1 ≤ r) (hg : use g.2 = .bar ∨ ∃ d, use g.2 = .cred d) : (Rd I).duties g r = ∅ := by
  show (if g.1.2 = .tc then dutOf r (use g.2) else ∅) = ∅
  split
  · rcases hg with hg | ⟨d, hg⟩ <;> rw [hg] <;> exact if_neg (by omega)
  · rfl

/-! ## What a device owes, and the levels -/

/-- What a device still owes in a direction: the sends from step `a` on and the credits from `b` on. -/
def Od (d : Bool) (c : Dev nD) (a b : ℕ) : CellTallies nD τ sig ℕ :=
  (∑ t ∈ Finset.Ico a 30, tallyAt (rcvCell d (toD d c) (par t)) t NB) + ∑ k ∈ Finset.Ico b 28, tallyAt (credCell d (toD (!d) c)) k 1

theorem sum_Ico_bot {a b : ℕ} (h : a < b) (f : ℕ → CellTallies nD τ sig ℕ) :
    ∑ t ∈ Finset.Ico a b, f t = f a + ∑ t ∈ Finset.Ico (a + 1) b, f t := by
  have e : Finset.Ico a b = insert a (Finset.Ico (a + 1) b) := by
    ext x; simp only [Finset.mem_insert, Finset.mem_Ico]; omega
  rw [e, Finset.sum_insert (by simp only [Finset.mem_Ico]; omega)]

theorem Od_send (d : Bool) (c : Dev nD) {a : ℕ} (b : ℕ) (h : a < 30) :
    Od d c a b = Od d c (a + 1) b + tallyAt (rcvCell d (toD d c) (par a)) a NB := by
  unfold Od; rw [sum_Ico_bot h]; rw [add_comm (tallyAt _ _ _), add_right_comm]
theorem Od_grant (d : Bool) (c : Dev nD) (a : ℕ) {b : ℕ} (h : b < 28) :
    Od d c a b = Od d c a (b + 1) + tallyAt (credCell d (toD (!d) c)) b 1 := by
  unfold Od; rw [sum_Ico_bot h]; exact (add_assoc _ _ _).symm.trans (add_right_comm _ _ _)
theorem Od_done (d : Bool) (c : Dev nD) : Od d c 30 28 = 0 := by
  unfold Od; rw [Finset.Ico_self, Finset.Ico_self, Finset.sum_empty, Finset.sum_empty, add_zero]

/-- The indices of a counter. -/
def L (g : GSem nD τ sig) : Finset ℕ := if g.1.2 = .tc then Finset.range 64 else ∅
/-- The order of the waits. -/
def lv (g : GSem nD τ sig) (i : ℕ) : ℕ :=
  match use g.2 with
  | .bar => 1 | .cred _ => 2 * i + 5 | .rcv _ _ => 2 * i + 2 | _ => 0

theorem L_of_ne (g : GSem nD τ sig) (h : g.1.2 ≠ .tc) : L g = ∅ := if_neg h
theorem L_tc (c : Dev nD) (sm : SemLoc sig) : L ((c : Thread nD τ), sm) = Finset.range 64 := if_pos rfl
theorem lv_bar (c : Dev nD) (i : ℕ) : lv (barCell c) i = 1 := rfl
theorem lv_cred (d : Bool) (c : Dev nD) (i : ℕ) : lv (credCell d c) i = 2 * i + 5 := by unfold lv; rw [use_cred]
theorem lv_rcv (d : Bool) (c : Dev nD) (s : Fin 2) (i : ℕ) : lv (rcvCell d c s) i = 2 * i + 2 := by unfold lv; rw [use_rcv]
theorem lv_snd (d : Bool) (c : Dev nD) (s : Fin 2) (i : ℕ) : lv (sndCell d c s) i = 0 := by unfold lv; rw [use_snd]

/-- All that is owed lies above `n`. -/
def Above (n : ℕ) (O : CellTallies nD τ sig ℕ) : Prop := ∀ g i, 0 < O g i → i ∈ L g ∧ n < lv g i

theorem Above.add {n : ℕ} {O O' : CellTallies nD τ sig ℕ} (h : Above n O) (h' : Above n O') : Above n (O + O') := fun g i hp => by
  rw [Pi.add_apply, Finsupp.add_apply] at hp
  rcases Nat.eq_zero_or_pos (O g i) with h0 | h0
  · exact h' g i (by omega)
  · exact h g i h0
theorem Above.zero (n : ℕ) : Above n 0 := fun g i hp => absurd hp (by simp)
theorem Above.mono {n n' : ℕ} (hn : n ≤ n') {O : CellTallies nD τ sig ℕ} (h : Above n' O) : Above n O :=
  fun g i hp => ⟨(h g i hp).1, Nat.lt_of_le_of_lt hn (h g i hp).2⟩
theorem Above.sum {n : ℕ} {S : Finset ℕ} {f : ℕ → CellTallies nD τ sig ℕ} (h : ∀ i ∈ S, Above n (f i)) : Above n (∑ i ∈ S, f i) := by
  induction S using Finset.induction_on with
  | empty => rw [Finset.sum_empty]; exact Above.zero n
  | insert i S hi ih =>
    rw [Finset.sum_insert hi]
    exact (h i (Finset.mem_insert_self _ _)).add (ih fun j hj => h j (Finset.mem_insert_of_mem hj))
theorem Above.at {n : ℕ} {g : GSem nD τ sig} {i k : ℕ} (hL : i ∈ L g) (h : n < lv g i) : Above n (tallyAt g i k) := fun g' i' hp => by
  obtain ⟨rfl, rfl⟩ := Pipeline.tallyAt_pos hp
  exact ⟨hL, h⟩

theorem Od_above (d : Bool) (c : Dev nD) {n a b : ℕ} (ha : n < 2 * a + 2) (hb : n < 2 * b + 5) : Above n (Od d c a b) := by
  refine (Above.sum fun t ht => ?_).add (Above.sum fun k hk => ?_)
  · obtain ⟨h1, h2⟩ := Finset.mem_Ico.mp ht
    exact Above.at (by rw [L_tc]; exact Finset.mem_range.mpr (by omega)) (by rw [lv_rcv]; omega)
  · obtain ⟨h1, h2⟩ := Finset.mem_Ico.mp hk
    exact Above.at (by rw [L_tc]; exact Finset.mem_range.mpr (by omega)) (by rw [lv_cred]; omega)

omit [FloatOps F] in
/-- A wait below all that is owed is allowed. -/
theorem may_wait (c : Dev nD) (sm : SemLoc sig) {i n : ℕ} (hi : i < 64) (hn : lv ((c : Thread nD τ), sm) i ≤ n) {O : CellTallies nD τ sig ℕ}
    (h : Above n O) : (levAts L lv : sProp 𝕄) ⊢ MayWait (c : Thread nD τ) sm i O :=
  MayOwe.of_cut (L := L) (lev := lv) n
    (fun p hp => by rw [Finset.mem_singleton.mp hp, L_tc]; exact Finset.mem_range.mpr hi)
    (fun g i hg => (h g i hg).1)
    (fun p hp => by rw [Finset.mem_singleton.mp hp]; exact hn)
    (fun g i hg => (h g i hg).2)

end Cert.KernelIdeal.RS

end
-- ==== Proof.KernelIdeal.Ops.lean ====
/-
# Single operations under the protocol

One rule per operation of the ring: a send, the pair of waits that ends a step, a credit taken, a credit given, the
loads and stores of a slot, a copy out. Each is stated for a direction and a step.
-/
module

public import proofs.«01_k».proof.Proof.KernelIdeal.Protocol

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv)

variable {F : FTy → Type} [FloatOps F]

local notation "𝕄" => MT nD τ sig ℕ (Elt F) ℕ UU ℕ

abbrev 𝒱₀ : Variants := Variants.none

/-- The program `p` on device `c` ends in `Q`. -/
abbrev WP (c : Dev nD) (p : PP F) (Q : PUnit → sProp 𝕄) : sProp 𝕄 :=
  wp frame (wpE (defs₀ (F := F)) 𝒱₀ (c : Thread nD τ) none) Set.univ p Q

variable (I : Ins F)

/-! ## The records every device holds -/

/-- The counters of a device that follow the schedule. -/
abbrev ringSem : Fin 11 → SemLoc sig
  | 0 => .reg barSem | 1 => .reg (credSem true) | 2 => .reg (credSem false)
  | 3 => .dma (semAt (sndSems true) 0) | 4 => .dma (semAt (sndSems true) 1)
  | 5 => .dma (semAt (sndSems false) 0) | 6 => .dma (semAt (sndSems false) 1)
  | 7 => .dma (semAt (rcvSems true) 0) | 8 => .dma (semAt (rcvSems true) 1)
  | 9 => .dma (semAt (rcvSems false) 0) | 10 => .dma (semAt (rcvSems false) 1)
abbrev ringCell (ck : Dev nD × Fin 11) : GSem nD τ sig := ((ck.1 : Thread nD τ), ringSem ck.2)

theorem ringCell_injective : Function.Injective (ringCell : Dev nD × Fin 11 → GSem nD τ sig) := by
  rintro ⟨c, k⟩ ⟨c', k'⟩ h
  have h1 : c = c' := by have := congrArg (fun g : GSem nD τ sig => g.1.1) h; exact this
  subst h1
  have h2 : ringSem k = ringSem k' := congrArg Prod.snd h
  have : k = k' := (by decide : ∀ k k' : Fin 11, ringSem k = ringSem k' → k = k') k k' h2
  subst this; rfl
/-- All of them. -/
def ringCells : Finset (GSem nD τ sig) := Finset.univ.map ⟨ringCell, ringCell_injective⟩

theorem mem_ring (c : Dev nD) (k : Fin 11) : ringCell (c, k) ∈ ringCells := Finset.mem_map_of_mem ⟨ringCell, ringCell_injective⟩ (Finset.mem_univ (c, k))
theorem mem_bar (c : Dev nD) : barCell c ∈ ringCells := mem_ring c 0
theorem mem_cred (d : Bool) (c : Dev nD) : credCell d c ∈ ringCells := by cases d; exacts [mem_ring c 2, mem_ring c 1]
theorem mem_snd (d : Bool) (c : Dev nD) (s : Fin 2) : sndCell d c s ∈ ringCells := by
  match d, s with
  | true, 0 => exact mem_ring c 3 | true, 1 => exact mem_ring c 4 | false, 0 => exact mem_ring c 5 | false, 1 => exact mem_ring c 6
theorem mem_rcv (d : Bool) (c : Dev nD) (s : Fin 2) : rcvCell d c s ∈ ringCells := by
  match d, s with
  | true, 0 => exact mem_ring c 7 | true, 1 => exact mem_ring c 8 | false, 0 => exact mem_ring c 9 | false, 1 => exact mem_ring c 10

/-- The slot behind a key. -/
abbrev keySlot (k : Key) : sProp 𝕄 := slotAny (rcvM k.2.1) k.2.2 k.1

/-- Every counter's and every slot's invariant, and the order of the waits. -/
def Recs (κ : GSem nD τ sig → ℕ) (ιs : Key → ℕ) : sProp 𝕄 :=
  iprop(bigSep ringCells (fun g => cellInv ER (Rd I) (κ g) g) ∗ bigSep Finset.univ (fun k : Key => slotInv ES (ιs k) k (keySlot k)) ∗ levAts L lv)

instance Recs_persistent (κ ιs) : BI.Persistent (Recs I κ ιs) := by unfold Recs; infer_instance

variable (κ : GSem nD τ sig → ℕ) (ιs : Key → ℕ)

theorem rec_cell {g : GSem nD τ sig} (h : g ∈ ringCells) : Recs I κ ιs ⊢ cellInv ER (Rd I) (κ g) g := by
  have h' : bigSep ringCells (fun g => cellInv ER (Rd I) (κ g) g) ⊢ (cellInv ER (Rd I) (κ g) g : sProp 𝕄) :=
    bigSep_elim (Φ := fun g => cellInv ER (Rd I) (κ g) g) h
  unfold Recs
  iintro ⟨H, -⟩
  iapply h'; iexact H
theorem rec_slot (k : Key) : Recs I κ ιs ⊢ slotInv ES (ιs k) k (keySlot k) := by
  have h' : bigSep Finset.univ (fun k : Key => slotInv ES (ιs k) k (keySlot k)) ⊢ (slotInv ES (ιs k) k (keySlot k) : sProp 𝕄) :=
    bigSep_elim (Φ := fun k : Key => slotInv ES (ιs k) k (keySlot k)) (Finset.mem_univ k)
  unfold Recs
  iintro ⟨-, H, -⟩
  iapply h'; iexact H
theorem rec_lev : Recs I κ ιs ⊢ levAts L lv := by
  unfold Recs
  iintro ⟨-, -, H⟩
  iexact H

set_option maxRecDepth 20000 in
theorem rec_may (c : Dev nD) (sm : SemLoc sig) {i n : ℕ} (hi : i < 64) (hn : lv ((c : Thread nD τ), sm) i ≤ n) {O : CellTallies nD τ sig ℕ}
    (h : Above n O) : Recs I κ ιs ⊢ MayWait (c : Thread nD τ) sm i O :=
  (rec_lev I κ ιs).trans (may_wait c sm hi hn h)

/-- What a device owes, whatever it has waited for. -/
def ow (c : Dev nD) (O : CellTallies nD τ sig ℕ) : sProp 𝕄 := iprop(∃ W, owes (c : Thread nD τ) O W)

/-! ## Slots as blocks -/

variable {e : EltTy}

theorem blk_set (m : Memref sig .tc .vmem S2x256x4096 e) (s : Fin 2) : (blk m s).view.set = (m.access (slotR s)).set := View.set_reshape _ _

omit [FloatOps F] in
theorem blk_pts (m : Memref sig .tc .vmem S2x256x4096 e) (s : Fin 2) (c : Dev nD) (f : m.view.ty.Contents (Elt F)) :
    ((blk m s).view.loc (c : Thread nD τ) ↦[(blk m s).view.set]{fullShare} f)
      = (((m.access (slotR s)).loc (c : Thread nD τ) ↦[(m.access (slotR s)).set]{fullShare} f) : sProp 𝕄) := by
  rw [blk_set]

theorem blk_credit (d : Bool) (s : Fin 2) : (blk (rcvM d) s).view.dmaCredit = NB := by
  unfold NB; cases d <;> rfl
theorem blk_credit' (d : Bool) (s : Fin 2) : (blk (sndM d) s).view.dmaCredit = NB := by
  unfold NB; cases d <;> rfl

/-- The index of a block's element in its slot. -/
abbrev unIx (x : S256x4096.Idx) : S1x256x4096.Idx := Shape.reshapeEquiv (s := S1x256x4096) (s' := S256x4096) (by decide) x
/-- A slot's values as a block. -/
def unslot (v : Vec F S1x256x4096 e) : Vec F S256x4096 e := fun x => v (unIx x)

omit [FloatOps F] in
theorem unslot_inj {v w : Vec F S1x256x4096 e} (h : unslot v = unslot w) : v = w := funext fun i => by
  obtain ⟨x, rfl⟩ := (Shape.reshapeEquiv (s := S1x256x4096) (s' := S256x4096) (by decide)).surjective i
  exact congrFun h x

omit [FloatOps F] in
theorem read_blk (m : Memref sig .tc .vmem S2x256x4096 e) (s : Fin 2) (f : m.view.ty.Contents (Elt F)) :
    (blk m s).view.read (Elt F) f = unslot ((m.access (slotR s)).read (Elt F) f) := rfl

omit [FloatOps F] in
/-- A block read in one slot and written in another is what the first slot held. -/
theorem blk_read (m m' : Memref sig .tc .vmem S2x256x4096 e) (s s' : Fin 2)
    (f : m.view.ty.Contents (Elt F)) (g : m'.view.ty.Contents (Elt F)) :
    (m'.access (slotR s')).read (Elt F) ((blk m' s').view.write (Elt F) g ((blk m s).view.read (Elt F) f) Finset.univ)
      = (m.access (slotR s)).read (Elt F) f :=
  unslot_inj ((read_blk m' s' _).symm.trans ((View.read_write_univ _ _).trans (read_blk m s f)))

theorem par_val (t : ℕ) : 2 * (t / 2) + (par t).val = t := Nat.div_add_mod t 2

/-! ## Sending -/

variable {I κ ιs}

theorem op_send (d : Bool) (m : Memref sig .tc .vmem S2x256x4096 .bf16) (h : m.IsWhole) (s : Fin 2) (c : Dev nD) {t : ℕ} (ht : t < 30)
    (hm : (slotAny m s c : sProp 𝕄) ⊢ sndBack d c (par t) (t / 2))
    {O O' : CellTallies nD τ sig ℕ} (hO : O = O' + tallyAt (rcvCell d (toD d c) (par t)) t NB) {k : PP F} {Q : PUnit → sProp 𝕄} :
    iprop(Recs I κ ιs ∗ slotAt m s c (V I d t c) ∗ relF d (toD d c) t ∗ writeTok ES (toD d c, d, par t) (t / 2 + 1)
        ∗ dutyTok ER (sndCell d c (par t)) (t / 2) 0 ∗ dutyTok ER (rcvCell d (toD d c) (par t)) (t / 2) 0
        ∗ reached ER (sndCell d c (par t)) (t / 2) ∗ ow c O)
      ⊢ iprop((iprop(cred (tallyAt (sndCell d c (par t)) 0 NB) ∗ ow c O') -∗ WP c k Q) -∗ WP c (send d m h s (par t) c k) Q) := by
  have hr : t / 2 < 15 := by omega
  unfold relF ow send slotAt
  iintro ⟨#HR, ⟨%f, Hf, %hf⟩, ⟨#Hrel, #Hrr⟩, Hw, Ht1, Ht2, #Hrs, ⟨%W, HO⟩⟩ Hk
  ihave #Hsl := (rec_slot I κ ιs (toD d c, d, par t)) $$ HR
  ihave #Hc1 := (rec_cell I κ ιs (mem_snd d c (par t))) $$ HR
  ihave #Hc2 := (rec_cell I κ ιs (mem_rcv d (toD d c) (par t))) $$ HR
  imod (Release.slot_take ES (Set.mem_univ (ιs (toD d c, d, par t))) (t / 2 + 1)) $$ [Hw] with HS
  · iframe Hsl Hrel Hw
  unfold keySlot slotAny
  icases HS with ⟨%g, Hg⟩
  ihave Hf := (Entails.of_eq (blk_pts m s c f).symm) $$ Hf
  ihave Hg := (Entails.of_eq (blk_pts (rcvM d) (par t) (toD d c) g).symm) $$ Hg
  have hpay₁ : ((blk m s).view.loc (c : Thread nD τ) ↦[(blk m s).view.set]{fullShare} f) ⊢ (Rd I).payload (sndCell d c (par t)) (t / 2) 0 := by
    rw [payload_snd, blk_pts]
    iintro H; iapply hm
    unfold slotAny
    iexists f; iexact H
  have hpay₂ : ((blk (rcvM d) (par t)).view.loc (toD d c : Thread nD τ) ↦[(blk (rcvM d) (par t)).view.set]{fullShare}
      ((blk (rcvM d) (par t)).view.write (Elt F) g ((blk m s).view.read (Elt F) f) Finset.univ)) ⊢ (Rd I).payload (rcvCell d (toD d c) (par t)) (t / 2) 0 := by
    rw [payload_rcv, par_val, to_back, blk_pts]
    unfold slotAt
    iintro H; iexists _
    isplitl [H]; · iexact H
    ipureintro
    rw [blk_read]; exact hf
  iapply (Rounds.wp_send_pointsTo 𝒱₀ ER (Rd I) (c : Thread nD τ) none (src := blk m s) (dst := blk (rcvM d) (par t))
      (c' := (toD d c : Thread nD τ)) (sem := .dma (semAt (rcvSems d) (par t))) (sS := .dma (semAt (sndSems d) (par t)))
      (κ₁ := κ (sndCell d c (par t))) (κ₂ := κ (rcvCell d (toD d c) (par t)))
      (r₁ := t / 2) (r₂ := t / 2) (d₁ := 0) (d₂ := 0) (fs := f) (fd := g)
      (by rw [duties_snd I d c _ hr]; exact Finset.mem_singleton_self _) (by rw [duties_rcv I d _ _ hr]; exact Finset.mem_singleton_self _)
      t 0 NB (blk_credit d (par t)) (amount_snd I d c (par t) _ _) (amount_rcv I d (toD d c) (par t) _ _) O' hO (W := W)
      hpay₁ hpay₂) $$ [Hf Hg HO Ht1 Ht2]
  · iframe Hc1 Hc2 Hf Hg HO Ht1 Hrs Ht2 Hrr
  iintro ⟨Hc, HO⟩
  iapply Hk
  isplitl [Hc]; · iexact Hc
  iexists W; iexact HO

/-! ## The two waits of a step -/

theorem op_waits (d : Bool) (m : Memref sig .tc .vmem S2x256x4096 .bf16) (h : m.IsWhole) (s : Fin 2) (c : Dev nD) {t : ℕ} (ht : t < 30)
    (hm : (blk m s).view.dmaCredit = NB) {O : CellTallies nD τ sig ℕ} (hO : Above (2 * t + 2) O) {k : PP F} {Q : PUnit → sProp 𝕄} :
    iprop(Recs I κ ιs ∗ cred (tallyAt (sndCell d c (par t)) 0 NB) ∗ cred (tallyAt (rcvCell d c (par t)) t NB)
        ∗ atPos ER (sndCell d c (par t)) (t / 2) ∅ 0 ∗ atPos ER (rcvCell d c (par t)) (t / 2) ∅ 0 ∗ ow c O)
      ⊢ iprop((iprop(ow c O ∗ atPos ER (sndCell d c (par t)) (t / 2 + 1) ∅ 0 ∗ reached ER (sndCell d c (par t)) (t / 2 + 1)
            ∗ atPos ER (rcvCell d c (par t)) (t / 2 + 1) ∅ 0 ∗ reached ER (rcvCell d c (par t)) (t / 2 + 1)
            ∗ sndBack d c (par t) (t / 2) ∗ slotAt (rcvM d) (par t) c (V I d t (toD (!d) c))) -∗ WP c k Q)
          -∗ WP c (waits d m h s (par t) k) Q) := by
  have hr : t / 2 < 15 := by omega
  have h1 : bigSep ((Rd I).duties (sndCell d c (par t)) (t / 2) \ ∅) (fun k => (Rd I).payload (sndCell d c (par t)) (t / 2) k)
      ⊢ (sndBack d c (par t) (t / 2) : sProp 𝕄) :=
    Entails.of_eq (by rw [Finset.sdiff_empty, duties_snd I d c _ hr, bigSep_singleton]; exact payload_snd I d c _ _ _)
  have h2 : bigSep ((Rd I).duties (rcvCell d c (par t)) (t / 2) \ ∅) (fun k => (Rd I).payload (rcvCell d c (par t)) (t / 2) k)
      ⊢ (slotAt (rcvM d) (par t) c (V I d t (toD (!d) c)) : sProp 𝕄) :=
    Entails.of_eq (by rw [Finset.sdiff_empty, duties_rcv I d c _ hr, bigSep_singleton]; rw [payload_rcv, par_val])
  unfold ow waits
  iintro ⟨#HR, Hcs, Hcr, Has, Har, ⟨%W, HO⟩⟩ Hk
  ihave #Hc1 := (rec_cell I κ ιs (mem_snd d c (par t))) $$ HR
  ihave #Hc2 := (rec_cell I κ ιs (mem_rcv d c (par t))) $$ HR
  iapply (Rounds.wp_wait_rest_token 𝒱₀ ER (Rd I) (c : Thread nD τ) none (κ := κ (sndCell d c (par t)))
      (wpE_waitDma2_eq 𝒱₀ (c : Thread nD τ) none Set.univ) (Set.mem_univ _) 0 (O := O) (W := W) (R := t / 2) (m := 0) (T := ∅)
      (by rw [Nat.zero_add, expect_snd I d c _ hr]; exact hm)) $$ [Hcs HO Has]
  · isplitr; · iexact Hc1
    isplitl [Hcs]; · rw [hm]; iexact Hcs
    isplitl [HO]; · iexact HO
    isplitr; · iapply (rec_may I κ ιs c (.dma (semAt (sndSems d) (par t))) (by omega) (by rw [lv_snd]; exact Nat.zero_le _) hO); iexact HR
    iexact Has
  iintro ⟨HO, Has, Hrs, Hp⟩
  ihave Hb := h1 $$ Hp
  iapply (Rounds.wp_wait_rest_token 𝒱₀ ER (Rd I) (c : Thread nD τ) none (κ := κ (rcvCell d c (par t)))
      (wpE_waitDma2_eq 𝒱₀ (c : Thread nD τ) none Set.univ) (Set.mem_univ _) t (O := O) (R := t / 2) (m := 0) (T := ∅)
      (by rw [Nat.zero_add, expect_rcv I d c _ hr]; exact blk_credit d (par t))) $$ [Hcr HO Har]
  · isplitr; · iexact Hc2
    isplitl [Hcr]; · rw [blk_credit]; iexact Hcr
    isplitl [HO]; · iexact HO
    isplitr; · iapply (rec_may I κ ιs c (.dma (semAt (rcvSems d) (par t))) (by omega) (by rw [lv_rcv]) hO); iexact HR
    iexact Har
  iintro ⟨HO, Har, Hrr, Hp⟩
  ihave Hv := h2 $$ Hp
  iapply Hk
  isplitl [HO]; · iexists _; iexact HO
  iframe Has Hrs Har Hrr Hb Hv

/-! ## Credits -/

/-- After `n` credits taken, some still to come. -/
def credMid (d : Bool) (c : Dev nD) (n : ℕ) : sProp 𝕄 :=
  iprop(∃ T : Finset ℕ, ⌜T ⊆ Finset.range 28⌝ ∗ atPos ER (credCell d c) 0 T n ∗ bigSep T (fun k => relAll d (toD d c) (k + 3)))

/-- After `n` credits taken. -/
def credSt (d : Bool) (c : Dev nD) (n : ℕ) : sProp 𝕄 :=
  if n < 28 then credMid d c n else atPos ER (credCell d c) 1 ∅ 0

omit [FloatOps F] in
theorem relAll_of_mem {d : Bool} {c : Dev nD} {n : ℕ} {S : Finset ℕ} (h : ∃ k ∈ S, n ≤ k) :
    bigSep S (fun k => relAll d (toD d c) (k + 3)) ⊢ (relF d (toD d c) (n + 2) : sProp 𝕄) := by
  obtain ⟨k, hk, hn⟩ := h
  have h1 : bigSep S (fun k => relAll d (toD d c) (k + 3)) ⊢ (relAll d (toD d c) (k + 3) : sProp 𝕄) :=
    bigSep_elim (Φ := fun k => relAll d (toD d c) (k + 3)) hk
  exact h1.trans (relAll_at d _ (by omega))

/-- More than `n` distinct numbers do not all lie below `n`. -/
theorem exists_ge {S : Finset ℕ} {n : ℕ} (h : n < S.card) : ∃ k ∈ S, n ≤ k := by
  by_contra hn
  have : S ⊆ Finset.range n := fun k hk => Finset.mem_range.mpr (Nat.lt_of_not_le fun hle => hn ⟨k, hk, hle⟩)
  have := Finset.card_le_card this
  rw [Finset.card_range] at this
  omega

theorem op_credit (d : Bool) (c : Dev nD) {n : ℕ} (hn : n < 28) {O : CellTallies nD τ sig ℕ} (hO : Above (2 * n + 5) O)
    {k : PP F} {Q : PUnit → sProp 𝕄} :
    iprop(Recs I κ ιs ∗ cred (tallyAt (credCell d c) n 1) ∗ credSt d c n ∗ ow c O)
      ⊢ iprop((iprop(ow c O ∗ credSt d c (n + 1) ∗ relF d (toD d c) (n + 2)) -∗ WP c k Q) -∗ WP c (credit d k) Q) := by
  have h1 : (1#32).toNat = 1 := by decide
  have hsplit : ∀ {S T : Finset ℕ}, T ⊆ S → iprop(bigSep (S \ T) (fun k => (Rd I).payload (credCell d c) 0 k) ∗ bigSep T (fun k => relAll d (toD d c) (k + 3)))
      ⊢ (bigSep S (fun k => relAll d (toD d c) (k + 3)) : sProp 𝕄) := fun {S T} hTS =>
    Entails.of_eq (by
      rw [bigSep_congr (Ψ := fun k => relAll d (toD d c) (k + 3)) fun k _ => payload_cred I d c k]
      exact ((bigSep_union (Φ := fun k => relAll d (toD d c) (k + 3)) Finset.sdiff_disjoint).symm.trans (by rw [Finset.sdiff_union_of_subset hTS])))
  by_cases hl : n + 1 < 28
  · unfold ow credit credSt
    rw [if_pos hn, if_pos hl]
    unfold credMid
    iintro ⟨#HR, Hc, ⟨%T, %hT, Hat, #HT⟩, ⟨%W, HO⟩⟩ Hk
    ihave #Hc1 := (rec_cell I κ ιs (mem_cred d c)) $$ HR
    iapply (Rounds.wp_wait 𝒱₀ ER (Rd I) (c : Thread nD τ) none (κ := κ (credCell d c))
        (wpE_semWait_eq 𝒱₀ (c : Thread nD τ) none Set.univ) (Set.mem_univ _) (cr := Finsupp.single n 1) (O := O) (W := W) {(.reg (credSem d), n)} (R := 0) (m := n) (T := T)
        (by rw [Util.total_single]; decide) (by rw [Finsupp.support_single_ne_zero _ Nat.one_ne_zero, Finset.image_singleton])) $$ [Hc HO Hat]
    · isplitr; · iexact Hc1
      isplitl [Hc]; · iexact Hc
      isplitl [HO]; · iexact HO
      isplitr; · iapply (rec_may I κ ιs c (.reg (credSem d)) (by omega) (by rw [lv_cred]) hO); iexact HR
      iexact Hat
    iintro %S ⟨%hS, HO, Hat, Hp⟩
    obtain ⟨hTS, hSd, hle⟩ := hS
    rw [duties_cred] at hSd
    rw [duties_cred, expect_cred, Finset.card_sdiff_of_subset hSd, Finset.card_range] at hle
    have hcard := Finset.card_le_card hSd
    rw [Finset.card_range] at hcard
    have hex : ∃ k ∈ S, n ≤ k := exists_ge (by omega)
    ihave #HS := (hsplit hTS) $$ [Hp]
    · isplitl [Hp]; · iexact Hp
      iexact HT
    ihave #Hf := (relAll_of_mem hex) $$ HS
    iapply Hk
    isplitl [HO]; · iexists _; iexact HO
    isplitl [Hat]
    · iexists S
      isplitr; · ipureintro; exact hSd
      isplitl [Hat]; · iexact Hat
      iexact HS
    iexact Hf
  · obtain rfl : n = 27 := by omega
    unfold ow credit credSt
    rw [if_pos hn, if_neg hl]
    unfold credMid
    iintro ⟨#HR, Hc, ⟨%T, %hT, Hat, #HT⟩, ⟨%W, HO⟩⟩ Hk
    ihave #Hc1 := (rec_cell I κ ιs (mem_cred d c)) $$ HR
    iapply (Rounds.wp_wait_rest_token 𝒱₀ ER (Rd I) (c : Thread nD τ) none (κ := κ (credCell d c))
        (wpE_semWait_eq 𝒱₀ (c : Thread nD τ) none Set.univ) (Set.mem_univ _) 27 (O := O) (W := W) (R := 0) (m := 27) (T := T)
        (by rw [expect_cred]; decide)) $$ [Hc HO Hat]
    · isplitr; · iexact Hc1
      isplitl [Hc]; · iexact Hc
      isplitl [HO]; · iexact HO
      isplitr; · iapply (rec_may I κ ιs c (.reg (credSem d)) (by omega) (by rw [lv_cred]) hO); iexact HR
      iexact Hat
    iintro ⟨HO, Hat, -, Hp⟩
    ihave #HS := (hsplit (S := (Rd I).duties (credCell d c) 0) (T := T) (by rw [duties_cred]; exact hT)) $$ [Hp]
    · isplitl [Hp]; · iexact Hp
      iexact HT
    ihave #Hf := (relAll_of_mem (n := 27) ⟨27, by rw [duties_cred]; decide, Nat.le_refl _⟩) $$ HS
    iapply Hk
    isplitl [HO]; · iexists _; iexact HO
    isplitl [Hat]; · iexact Hat
    iexact Hf

/-- Giving credit `n`. -/
theorem op_grant (d : Bool) (c : Dev nD) {n : ℕ} (hn : n < 28) {O O' : CellTallies nD τ sig ℕ}
    (hO : O = O' + tallyAt (credCell d (toD (!d) c)) n 1) {k : PP F} {Q : PUnit → sProp 𝕄} :
    iprop(Recs I κ ιs ∗ dutyTok ER (credCell d (toD (!d) c)) 0 n ∗ reached ER (credCell d (toD (!d) c)) 0 ∗ relAll d c (n + 3) ∗ ow c O)
      ⊢ iprop((ow c O' -∗ WP c k Q) -∗ WP c (grant d c k) Q) := by
  unfold ow grant
  iintro ⟨#HR, Ht, #Hr, #Ha, ⟨%W, HO⟩⟩ Hk
  ihave #Hc1 := (rec_cell I κ ιs (mem_cred d (toD (!d) c))) $$ HR
  iapply (Rounds.wp_signal 𝒱₀ ER (Rd I) (c : Thread nD τ) none (dst := (toD (!d) c : Thread nD τ)) (κ := κ (credCell d (toD (!d) c)))
      (d := n) (by rw [duties_cred]; exact Finset.mem_range.mpr hn) ((amount_cred I d (toD (!d) c) 0 n).trans (by decide)) n O' hO) $$ [HO Ht]
  · isplitr; · iexact Hc1
    isplitl [HO]; · iexact HO
    isplitl [Ht]; · iexact Ht
    isplitr; · rw [payload_cred, to_back']; iexact Ha
    iexact Hr
  iintro HO
  iapply Hk
  iexists _; iexact HO

/-- Giving a slot back. -/
theorem op_release (d : Bool) (s : Fin 2) (c : Dev nD) (n : ℕ) :
    iprop(Recs I κ ιs ∗ readerAt ES (c, d, s) n ∗ slotAny (rcvM d) s c)
      ⊢ (|={Set.univ}=> (readerAt ES (c, d, s) (n + 1) ∗ released ES (c, d, s) (n + 1)) : sProp 𝕄) := by
  iintro ⟨#HR, Hr, HS⟩
  ihave #Hsl := (rec_slot I κ ιs (c, d, s)) $$ HR
  iapply (Release.slot_release ES (Set.mem_univ (ιs (c, d, s))) (slot_false (rcvM d) s c) n)
  isplitr; · iexact Hsl
  isplitl [Hr]; · iexact Hr
  iexact HS

/-! ## Loads and stores -/

theorem op_ld (m : Memref sig .tc .vmem S2x256x4096 e) (s : Fin 2) (c : Dev nD) (v : Vec F S1x256x4096 e) {k : Vec F S1x256x4096 e → PP F}
    {Q : PUnit → sProp 𝕄} : slotAt m s c v ⊢ iprop((slotAt m s c v -∗ WP c (k v) Q) -∗ WP c (ldSlot m s k) Q) := by
  unfold slotAt ldSlot
  iintro ⟨%f, Hf, %hf⟩ Hk
  subst hf
  iapply (wp_load_rect 𝒱₀ (c : Thread nD τ) none Set.univ (m := m) (r := slotR s) (Finset.Subset.refl _)) $$ Hf; iintro Hf
  iapply Hk
  iexists f
  isplitl [Hf]; · iexact Hf
  ipureintro; rfl

theorem op_ld_any (m : Memref sig .tc .vmem S2x256x4096 e) (s : Fin 2) (c : Dev nD) {k : PP F}
    {Q : PUnit → sProp 𝕄} : slotAny m s c ⊢ iprop((slotAny m s c -∗ WP c k Q) -∗ WP c (ldSlot m s fun _ => k) Q) := by
  unfold slotAny ldSlot
  iintro ⟨%f, Hf⟩ Hk
  iapply (wp_load_rect 𝒱₀ (c : Thread nD τ) none Set.univ (m := m) (r := slotR s) (Finset.Subset.refl _)) $$ Hf; iintro Hf
  iapply Hk
  iexists f; iexact Hf

theorem op_st (m : Memref sig .tc .vmem S2x256x4096 .bf16) (h : m.IsWhole) (s : Fin 2) (c : Dev nD) (v : FVec F S1x256x4096 .bf16) {k : PP F}
    {Q : PUnit → sProp 𝕄} : slotAny m s c ⊢ iprop((slotAt m s c v -∗ WP c k Q) -∗ WP c (stSlot m h s v k) Q) := by
  unfold stSlot
  iintro Hf Hk
  iapply (op_ld_any m s c) $$ Hf; iintro Hf
  unfold slotAny slotAt
  icases Hf with ⟨%f, Hf⟩
  iapply (wp_store 𝒱₀ (c : Thread nD τ) none Set.univ (m := m) (r := slotR s) (Mk := Finset.univ) (S := (m.access (slotR s)).set) (Finset.Subset.refl _)) $$ Hf; iintro Hf
  iapply Hk
  iexists _
  isplitl [Hf]; · iexact Hf
  ipureintro; exact View.read_write_univ _ _

/-- The staged `x` and the widened `w`. -/
def xPts (I : Ins F) (c : Dev nD) : sProp 𝕄 := (((c : Thread nD τ).loc cc0_stg0_0) ↦{fullShare} I.x c)
def wbPts (I : Ins F) (c : Dev nD) : sProp 𝕄 := (((c : Thread nD τ).loc cc0_scratch0) ↦{fullShare} wbC I c)

theorem op_chunk (d : Bool) (c : Dev nD) (o : Fin 2 → ℕ) (ho : ∀ a, o a + S256x256.size a ≤ S4096x256.size a)
    {k : Vec F S256x256 .fp8e4m3 → Vec F S256x4096 .bf16 → PP F} {Q : PUnit → sProp 𝕄} :
    iprop(xPts I c ∗ wbPts I c) ⊢ iprop((iprop(xPts I c ∗ wbPts I c) -∗ WP c (k (xAt I c o ho) (wAt I c d)) Q) -∗ WP c (chunk d o ho k) Q) := by
  unfold xPts wbPts chunk
  iintro ⟨Hx, Hw⟩ Hk
  iapply (wp_load_rect 𝒱₀ (c : Thread nD τ) none Set.univ (m := xM) (r := xR o ho) (Finset.subset_univ _)) $$ Hx; iintro Hx
  iapply (wp_load_rect 𝒱₀ (c : Thread nD τ) none Set.univ (m := wbM) (r := colR d) (Finset.subset_univ _)) $$ Hw; iintro Hw
  iapply Hk
  isplitl [Hx]; · iexact Hx
  iexact Hw

end Cert.KernelIdeal.RS

end
-- ==== Proof.KernelIdeal.Copy.lean ====
/-
# The copies out

The finished block of a device and every block that arrives later leave for the result by a local copy, two of which
may be under way per direction.
-/
module

public import proofs.«01_k».proof.Proof.KernelIdeal.Ops

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-- A block of the result, at any contents. -/
def oAny (c : Dev nD) (o : Fin 2 → ℕ) (ho : ∀ a, o a + S256x4096.size a ≤ S4096x8192.size a) : sProp 𝕄 :=
  iprop(∃ f, ((oV o ho).view.loc (c : Thread nD τ) ↦[(oV o ho).view.set]{fullShare} f))
/-- A block of the result that holds `v`. -/
def oAt (c : Dev nD) (o : Fin 2 → ℕ) (ho : ∀ a, o a + S256x4096.size a ≤ S4096x8192.size a) (v : Vec F S256x4096 .f32) : sProp 𝕄 :=
  iprop(∃ f, ((oV o ho).view.loc (c : Thread nD τ) ↦[(oV o ho).view.set]{fullShare} f) ∗ ⌜(oV o ho).view.read (Elt F) f = v⌝)

/-- The buffer of the finished block, at any contents and at `v`. -/
def ownAny (d : Bool) (c : Dev nD) : sProp 𝕄 :=
  iprop(∃ f, ((ownM d).view.loc (c : Thread nD τ) ↦[(ownM d).view.set]{fullShare} f))
def ownAt (d : Bool) (c : Dev nD) (v : Vec F S256x4096 .f32) : sProp 𝕄 :=
  iprop(∃ f, ((ownM d).view.loc (c : Thread nD τ) ↦[(ownM d).view.set]{fullShare} f) ∗ ⌜(ownM d).view.read (Elt F) f = v⌝)

abbrev outCell (d : Bool) (c : Dev nD) (s : Fin 2) : GSem nD τ sig := ((c : Thread nD τ), .dma (semAt (outSems d) s))
abbrev ownCell (d : Bool) (c : Dev nD) : GSem nD τ sig := ((c : Thread nD τ), .dma (ownSem d))

theorem lv_out (d : Bool) (c : Dev nD) (s : Fin 2) (i : ℕ) : lv (outCell d c s) i = 0 := by
  have : use (.dma (semAt (outSems d) s)) = .other := by revert d s; decide
  unfold lv; rw [this]
theorem lv_own (d : Bool) (c : Dev nD) (i : ℕ) : lv (ownCell d c) i = 0 := by
  have : use (.dma (ownSem d)) = .other := by revert d; decide
  unfold lv; rw [this]

/-- What lands in the result from step `15 + r`. -/
def got (I : Ins F) (d : Bool) (c : Dev nD) (r : ℕ) : Vec F S256x4096 .f32 := unslot (k0_pay80 (V I d (15 + r) (toD (!d) c)))

/-- The copy out of step `15 + r`, under way. -/
def outFl (I : Ins F) (d : Bool) (c : Dev nD) (r : ℕ) : sProp 𝕄 :=
  Flight EC (c : Thread nD τ) (.dma (semAt (outSems d) (par (15 + r)))) 0 (oV (oOff c d r) (oOff_inb c d r)).view.dmaCredit
    iprop(oAt c (oOff c d r) (oOff_inb c d r) (got I d c r) ∗ slotAny (stgM d) (par (15 + r)) c)
/-- The copy of the finished block, under way. -/
def ownFl (I : Ins F) (d : Bool) (c : Dev nD) : sProp 𝕄 :=
  Flight EC (c : Thread nD τ) (.dma (ownSem d)) 0 (oV (wOff c d) (wOff_inb c d)).view.dmaCredit
    iprop(oAt c (wOff c d) (wOff_inb c d) (fin I d c) ∗ ownAny d c)

theorem op_stageOut (d : Bool) (c : Dev nD) (r : ℕ) {k : PP F} {Q : PUnit → sProp 𝕄} :
    iprop(slotAt (rcvM d) (par (15 + r)) c (V I d (15 + r) (toD (!d) c)) ∗ slotAny (stgM d) (par (15 + r)) c
        ∗ oAny c (oOff c d r) (oOff_inb c d r) ∗ semVal (outCell d c (par (15 + r))) 0)
      ⊢ iprop((iprop(slotAt (rcvM d) (par (15 + r)) c (V I d (15 + r) (toD (!d) c)) ∗ outFl I d c r) -∗ WP c k Q) -∗ WP c (stageOut d c r k) Q) := by
  unfold stageOut
  iintro ⟨Hr, Hs, Ho, Hz⟩ Hk
  iapply (op_ld (rcvM d) (par (15 + r)) c) $$ Hr; iintro Hr
  iapply (op_ld_any (stgM d) (par (15 + r)) c) $$ Hs; iintro Hs
  unfold slotAny oAny
  icases Hs with ⟨%f, Hs⟩
  icases Ho with ⟨%g, Ho⟩
  iapply (wp_store 𝒱₀ (c : Thread nD τ) none Set.univ (m := stgM d) (r := slotR (par (15 + r))) (Mk := Finset.univ)
    (S := ((stgM d).access (slotR (par (15 + r)))).set) (Finset.Subset.refl _)) $$ Hs; iintro Hs
  ihave Hs := (Entails.of_eq (blk_pts (stgM d) (par (15 + r)) c _).symm) $$ Hs
  iapply (wp_dmaLocal EC 𝒱₀ (c : Thread nD τ) none 0 (oV (oOff c d r) (oOff_inb c d r)).view.dmaCredit rfl (View.dmaCredit_pos _ (by decide))
    (Finset.Subset.refl _)) $$ [Hs Ho Hz]
  · isplitl [Hs]; · iexact Hs
    isplitl [Ho]; · iexact Ho
    iexact Hz
  iintro Hfl
  iapply Hk
  isplitl [Hr]; · iexact Hr
  unfold outFl
  iapply (Flight_mono EC (c : Thread nD τ) ?_) $$ Hfl
  iintro ⟨Ho, Hs⟩
  ihave Hs := (Entails.of_eq (blk_pts (stgM d) (par (15 + r)) c _)) $$ Hs
  isplitl [Ho]
  · unfold oAt
    iexists _
    isplitl [Ho]; · iexact Ho
    ipureintro
    refine (View.read_write_univ _ _).trans ?_
    show (blk (stgM d) (par (15 + r))).view.read (Elt F) _ = _
    rw [read_blk, View.read_write_univ]; rfl
  · unfold slotAny
    iexists _; iexact Hs

theorem op_outWait (d : Bool) (c : Dev nD) (r : ℕ) {O : CellTallies nD τ sig ℕ} (hO : Above 0 O) {k : PP F} {Q : PUnit → sProp 𝕄} :
    iprop(Recs I κ ιs ∗ outFl I d c r ∗ ow c O)
      ⊢ iprop((iprop(ow c O ∗ oAt c (oOff c d r) (oOff_inb c d r) (got I d c r) ∗ slotAny (stgM d) (par (15 + r)) c
          ∗ semVal (outCell d c (par (15 + r))) 0) -∗ WP c k Q) -∗ WP c (outWait d c r k) Q) := by
  unfold outWait outFl ow
  iintro ⟨#HR, Hfl, ⟨%W, HO⟩⟩ Hk
  iapply (wp_waitLocalO EC 𝒱₀ (c : Thread nD τ) none 0 rfl) $$ [Hfl HO]
  · isplitl [Hfl]; · iexact Hfl
    isplitl [HO]; · iexact HO
    iapply (rec_may I κ ιs c (.dma (semAt (outSems d) (par (15 + r)))) (by omega) (by rw [lv_out]) hO); iexact HR
  iintro ⟨⟨Ho, Hs⟩, Hz, HO⟩
  iapply Hk
  isplitl [HO]; · iexists _; iexact HO
  isplitl [Ho]; · iexact Ho
  isplitl [Hs]; · iexact Hs
  iexact Hz

/-- Keeping the finished block. -/
theorem op_ownStore (d : Bool) (c : Dev nD) (v : Vec F S256x4096 .f32) {h} {h'} {h''} {k : PP F} {Q : PUnit → sProp 𝕄} :
    ownAny d c ⊢ iprop((ownAt d c v -∗ WP c k Q) -∗ WP c
      (.op (.load (ownM d) (Rect.unit (s := S256x4096) ![0, 0] S256x4096.size inb_S256x4096_S256x4096_0_0).toLoadRect h) fun _ =>
       .op (.store (ownM d) (Rect.unit (s := S256x4096) ![0, 0] S256x4096.size inb_S256x4096_S256x4096_0_0) v Finset.univ h' h'') fun _ => k) Q) := by
  unfold ownAny ownAt
  iintro ⟨%f, Hf⟩ Hk
  iapply (wp_load_rect 𝒱₀ (c : Thread nD τ) none Set.univ (m := ownM d)
    (r := Rect.unit (s := S256x4096) ![0, 0] S256x4096.size inb_S256x4096_S256x4096_0_0) (View.set_slice_subset _ _)) $$ Hf; iintro Hf
  iapply (wp_store 𝒱₀ (c : Thread nD τ) none Set.univ (m := ownM d)
    (r := Rect.unit (s := S256x4096) ![0, 0] S256x4096.size inb_S256x4096_S256x4096_0_0) (Mk := Finset.univ)
    (S := (ownM d).view.set) (View.set_slice_subset _ _)) $$ Hf; iintro Hf
  iapply Hk
  iexists _
  isplitl [Hf]; · iexact Hf
  ipureintro
  funext y
  have hy : (Rect.unit (s := S256x4096) ![0, 0] S256x4096.size inb_S256x4096_S256x4096_0_0).emb y = y := by
    funext a
    refine Fin.ext ?_
    show (![0, 0] : Fin 2 → ℕ) a + 1 * (y a).val = (y a).val
    have : (![0, 0] : Fin 2 → ℕ) a = 0 := by revert a; decide
    rw [this, Nat.one_mul, Nat.zero_add]
  have h := congrFun (View.read_write_univ (v := (ownM d).access (Rect.unit (s := S256x4096) ![0, 0] S256x4096.size inb_S256x4096_S256x4096_0_0)) f v) y
  exact (congrArg ((ownM d).view.read (Elt F) _) hy.symm).trans h

theorem op_ownOut (d : Bool) (c : Dev nD) {k : PP F} {Q : PUnit → sProp 𝕄} :
    iprop(ownAt d c (fin I d c) ∗ oAny c (wOff c d) (wOff_inb c d) ∗ semVal (ownCell d c) 0)
      ⊢ iprop((ownFl I d c -∗ WP c k Q) -∗ WP c (ownOut d c k) Q) := by
  unfold ownOut ownAt oAny
  iintro ⟨⟨%f, Hf, %hf⟩, ⟨%g, Ho⟩, Hz⟩ Hk
  iapply (wp_dmaLocal EC 𝒱₀ (c : Thread nD τ) none 0 (oV (wOff c d) (wOff_inb c d)).view.dmaCredit rfl (View.dmaCredit_pos _ (by decide))
    (Finset.Subset.refl _)) $$ [Hf Ho Hz]
  · isplitl [Hf]; · iexact Hf
    isplitl [Ho]; · iexact Ho
    iexact Hz
  iintro Hfl
  iapply Hk
  unfold ownFl
  iapply (Flight_mono EC (c : Thread nD τ) ?_) $$ Hfl
  iintro ⟨Ho, Hs⟩
  isplitl [Ho]
  · unfold oAt
    iexists _
    isplitl [Ho]; · iexact Ho
    ipureintro
    exact (View.read_write_univ _ _).trans hf
  · unfold ownAny
    iexists _; iexact Hs

theorem op_ownWait (d : Bool) (c : Dev nD) {h} {h'} {O : CellTallies nD τ sig ℕ} (hO : Above 0 O) {k : PP F} {Q : PUnit → sProp 𝕄} :
    iprop(Recs I κ ιs ∗ ownFl I d c ∗ ow c O)
      ⊢ iprop((iprop(ow c O ∗ oAt c (wOff c d) (wOff_inb c d) (fin I d c) ∗ ownAny d c ∗ semVal (ownCell d c) 0) -∗ WP c k Q)
          -∗ WP c (.op (.waitDma2 (ownSem d) (ownM d) (oV (wOff c d) (wOff_inb c d)) h h') fun _ => k) Q) := by
  unfold ownFl ow
  iintro ⟨#HR, Hfl, ⟨%W, HO⟩⟩ Hk
  iapply (wp_waitLocalO EC 𝒱₀ (c : Thread nD τ) none 0 rfl) $$ [Hfl HO]
  · isplitl [Hfl]; · iexact Hfl
    isplitl [HO]; · iexact HO
    iapply (rec_may I κ ιs c (.dma (ownSem d)) (by omega) (by rw [lv_own]) hO); iexact HR
  iintro ⟨⟨Ho, Hs⟩, Hz, HO⟩
  iapply Hk
  isplitl [HO]; · iexists _; iexact HO
  isplitl [Ho]; · iexact Ho
  isplitl [Hs]; · iexact Hs
  iexact Hz

end Cert.KernelIdeal.RS

end
-- ==== Proof.KernelIdeal.Steps.lean ====
/-
# The reduction

What a device holds before a step, in one direction, and the two halves of a step: the send with the credit it needs, and
the waits with what is done to the block that arrived. A step of the reduction takes the state before it to the state
before the next.
-/
module

public import proofs.«01_k».proof.Proof.KernelIdeal.Copy
public import Idealize.SL.BI.BigOpNat

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-! ## What a direction holds -/

/-- For the step `t`: the right to write the target's slot, the two duties of the send, the units of the arrival. -/
def kitP (d : Bool) (c : Dev nD) (t : ℕ) : sProp 𝕄 :=
  iprop(writeTok ES (toD d c, d, par t) (t / 2 + 1) ∗ dutyTok ER (sndCell d c (par t)) (t / 2) 0
    ∗ dutyTok ER (rcvCell d (toD d c) (par t)) (t / 2) 0 ∗ cred (tallyAt (rcvCell d c (par t)) t NB))
/-- Where the two counters of step `t` stand. -/
def posP (d : Bool) (c : Dev nD) (t : ℕ) : sProp 𝕄 :=
  iprop(atPos ER (sndCell d c (par t)) (t / 2) ∅ 0 ∗ reached ER (sndCell d c (par t)) (t / 2)
    ∗ atPos ER (rcvCell d c (par t)) (t / 2) ∅ 0 ∗ reached ER (rcvCell d c (par t)) (t / 2))
/-- How often the receive slot of step `t` has been given back before it. -/
def rdr (d : Bool) (c : Dev nD) (t : ℕ) : sProp 𝕄 := readerAt ES (c, d, par t) (t / 2 + 1)

def kits (d : Bool) (c : Dev nD) (t : ℕ) : sProp 𝕄 := bigSep (Finset.Ico t 30) (fun i => kitP d c i)
def credCrs (d : Bool) (c : Dev nD) (n : ℕ) : sProp 𝕄 := bigSep (Finset.Ico n 28) (fun i => cred (tallyAt (credCell d c) i 1))
def credToks (d : Bool) (c : Dev nD) (b : ℕ) : sProp 𝕄 := bigSep (Finset.Ico b 28) (fun i => dutyTok ER (credCell d (toD (!d) c)) 0 i)

/-- Before step `t`, with `b` credits given. -/
def Gh (d : Bool) (c : Dev nD) (t b : ℕ) : sProp 𝕄 :=
  iprop(kits d c t ∗ posP d c t ∗ posP d c (t + 1) ∗ credCrs d c (t - 2) ∗ credSt d c (t - 2) ∗ credToks d c b
    ∗ reached ER (credCell d (toD (!d) c)) 0 ∗ relAll d (toD d c) 2)
/-- Between the send and the waits of step `t`. -/
def Mid (d : Bool) (c : Dev nD) (t b : ℕ) : sProp 𝕄 :=
  iprop(cred (tallyAt (sndCell d c (par t)) 0 NB) ∗ cred (tallyAt (rcvCell d c (par t)) t NB)
    ∗ kits d c (t + 1) ∗ posP d c t ∗ posP d c (t + 1) ∗ credCrs d c (t - 1) ∗ credSt d c (t - 1) ∗ credToks d c b
    ∗ reached ER (credCell d (toD (!d) c)) 0 ∗ relAll d (toD d c) 2)

/-- What is owed, direction `d` first. -/
def owd (d : Bool) (c : Dev nD) (a b a' b' : ℕ) : sProp 𝕄 := ow c (Od d c a b + Od (!d) c a' b')

omit [FloatOps F] in
theorem owd_swap (d : Bool) (c : Dev nD) (a b a' b' : ℕ) : (owd d c a b a' b' : sProp 𝕄) = owd (!d) c a' b' a b := by
  unfold owd; rw [Bool.not_not, add_comm]

theorem par_next (t : ℕ) : par (t + 2) = par t := Fin.ext (by show (t + 2) % 2 = t % 2; omega)
theorem half_next (t : ℕ) : (t + 2) / 2 = t / 2 + 1 := by omega

omit [FloatOps F] in
theorem posP_next (d : Bool) (c : Dev nD) (t : ℕ) : (posP d c (t + 2) : sProp 𝕄) =
    iprop(atPos ER (sndCell d c (par t)) (t / 2 + 1) ∅ 0 ∗ reached ER (sndCell d c (par t)) (t / 2 + 1)
      ∗ atPos ER (rcvCell d c (par t)) (t / 2 + 1) ∅ 0 ∗ reached ER (rcvCell d c (par t)) (t / 2 + 1)) := by
  unfold posP; rw [par_next, half_next]
omit [FloatOps F] in
theorem rdr_next (d : Bool) (c : Dev nD) (t : ℕ) : (rdr d c (t + 2) : sProp 𝕄) = readerAt ES (c, d, par t) (t / 2 + 1 + 1) := by
  unfold rdr; rw [par_next, half_next]
omit [FloatOps F] in
theorem relF_next (d : Bool) (c : Dev nD) (t : ℕ) : (relF d c (t + 2) : sProp 𝕄) =
    iprop(released ES (c, d, par t) (t / 2 + 1 + 1) ∗ reached ER (rcvCell d c (par (t + 2))) ((t + 2) / 2)) := by
  unfold relF; rw [half_next, par_next]

omit [FloatOps F] in
theorem kits_take (d : Bool) (c : Dev nD) {t : ℕ} (h : t < 30) : kits d c t ⊢ (iprop(kitP d c t ∗ kits d c (t + 1)) : sProp 𝕄) :=
  Entails.of_eq (bigSep_Ico_succ_bot h fun i => kitP d c i)
omit [FloatOps F] in
theorem credCrs_take (d : Bool) (c : Dev nD) {n : ℕ} (h : n < 28) :
    credCrs d c n ⊢ (iprop(cred (tallyAt (credCell d c) n 1) ∗ credCrs d c (n + 1)) : sProp 𝕄) :=
  Entails.of_eq (bigSep_Ico_succ_bot h fun i => cred (tallyAt (credCell d c) i 1))
omit [FloatOps F] in
theorem credToks_take (d : Bool) (c : Dev nD) {n : ℕ} (h : n < 28) :
    credToks d c n ⊢ (iprop(dutyTok ER (credCell d (toD (!d) c)) 0 n ∗ credToks d c (n + 1)) : sProp 𝕄) :=
  Entails.of_eq (bigSep_Ico_succ_bot h fun i => dutyTok ER (credCell d (toD (!d) c)) 0 i)

/-! ## The halves of a step -/

theorem sendOne (d : Bool) (m : Memref sig .tc .vmem S2x256x4096 .bf16) (h : m.IsWhole) (s : Fin 2) (c : Dev nD) {t b a' b' : ℕ} (ht : t < 30)
    (hm : (slotAny m s c : sProp 𝕄) ⊢ sndBack d c (par t) (t / 2)) (hb : t ≤ b + 1) (ha' : t ≤ a') (hb' : t ≤ b' + 1)
    {k : PP F} {Q : PUnit → sProp 𝕄} :
    iprop(Recs I κ ιs ∗ Gh d c t b ∗ slotAt m s c (V I d t c) ∗ owd d c t b a' b')
      ⊢ iprop((iprop(Mid d c t b ∗ owd d c (t + 1) b a' b') -∗ WP c k Q)
          -∗ WP c ((if 2 ≤ t then credit d else id) (send d m h s (par t) c k)) Q) := by
  have hO : Od d c t b + Od (!d) c a' b' = (Od d c (t + 1) b + Od (!d) c a' b') + tallyAt (rcvCell d (toD d c) (par t)) t NB := by
    rw [Od_send d c b ht, add_right_comm]
  unfold Gh Mid owd
  iintro ⟨#HR, ⟨Hk, Hp, Hp', Hcc, Hcs, Hct, #Hrc, #Hra⟩, Hs, HO⟩ Hc
  ihave Hk := (kits_take d c ht) $$ Hk
  unfold kitP
  icases Hk with ⟨⟨Hw, Ht1, Ht2, Hcr⟩, Hk⟩
  by_cases h2 : 2 ≤ t
  · rw [if_pos h2]
    ihave Hcc := (credCrs_take d c (n := t - 2) (by omega)) $$ Hcc
    icases Hcc with ⟨Hc1, Hcc⟩
    iapply (op_credit (κ := κ) (ιs := ιs) d c (n := t - 2) (O := Od d c t b + Od (!d) c a' b') (by omega) ((Od_above d c (by omega) (by omega)).add (Od_above (!d) c (by omega) (by omega)))) $$ [Hc1 Hcs HO]
    · isplitr; · iexact HR
      isplitl [Hc1]; · iexact Hc1
      isplitl [Hcs]; · iexact Hcs
      iexact HO
    iintro ⟨HO, Hcs, Hrel⟩
    rw [show t - 2 + 1 = t - 1 by omega, show t - 2 + 2 = t by omega]
    unfold posP
    icases Hp with ⟨Hp1, #Hp2, Hp3, #Hp4⟩
    iapply (op_send (κ := κ) (ιs := ιs) d m h s c ht hm hO) $$ [Hs Hrel Hw Ht1 Ht2 HO]
    · isplitr; · iexact HR
      isplitl [Hs]; · iexact Hs
      isplitl [Hrel]; · iexact Hrel
      isplitl [Hw]; · iexact Hw
      isplitl [Ht1]; · iexact Ht1
      isplitl [Ht2]; · iexact Ht2
      isplitr; · iexact Hp2
      iexact HO
    iintro ⟨Hsc, HO⟩
    iapply Hc
    iframe Hsc Hcr Hk Hp1 Hp2 Hp3 Hp4 Hp' Hcc Hcs Hct Hrc Hra HO
  · rw [if_neg h2, show t - 1 = t - 2 by omega]
    ihave #Hrel := (relAll_at d (toD d c) (n := 2) (t := t) (by omega)) $$ Hra
    unfold posP
    icases Hp with ⟨Hp1, #Hp2, Hp3, #Hp4⟩
    iapply (op_send (κ := κ) (ιs := ιs) d m h s c ht hm hO) $$ [Hs Hw Ht1 Ht2 HO]
    · isplitr; · iexact HR
      isplitl [Hs]; · iexact Hs
      isplitr; · iexact Hrel
      isplitl [Hw]; · iexact Hw
      isplitl [Ht1]; · iexact Ht1
      isplitl [Ht2]; · iexact Ht2
      isplitr; · iexact Hp2
      iexact HO
    iintro ⟨Hsc, HO⟩
    iapply Hc
    iframe Hsc Hcr Hk Hp1 Hp2 Hp3 Hp4 Hp' Hcc Hcs Hct Hrc Hra HO

theorem waitOne (d : Bool) (m : Memref sig .tc .vmem S2x256x4096 .bf16) (h : m.IsWhole) (s : Fin 2) (c : Dev nD) {t b a' b' : ℕ} (ht : t < 30)
    (hm : (blk m s).view.dmaCredit = NB) (hb : t ≤ b + 1) (ha' : t < a') (hb' : t ≤ b' + 1) {k : PP F} {Q : PUnit → sProp 𝕄} :
    iprop(Recs I κ ιs ∗ Mid d c t b ∗ owd d c (t + 1) b a' b')
      ⊢ iprop((iprop(Gh d c (t + 1) b ∗ sndBack d c (par t) (t / 2) ∗ slotAt (rcvM d) (par t) c (V I d t (toD (!d) c))
            ∗ reached ER (rcvCell d c (par (t + 2))) ((t + 2) / 2) ∗ owd d c (t + 1) b a' b') -∗ WP c k Q)
          -∗ WP c (waits d m h s (par t) k) Q) := by
  unfold Gh Mid owd
  rw [show t + 1 + 1 = t + 2 from rfl, posP_next]
  iintro ⟨#HR, ⟨Hc1, Hc2, Hk, Hp, Hp', Hcc, Hcs, Hct, #Hrc, #Hra⟩, HO⟩ Hc
  unfold posP
  icases Hp with ⟨Hp1, -, Hp3, -⟩
  iapply (op_waits (κ := κ) (ιs := ιs) d m h s c ht hm (O := Od d c (t + 1) b + Od (!d) c a' b') ((Od_above d c (by omega) (by omega)).add (Od_above (!d) c (by omega) (by omega)))) $$ [Hc1 Hc2 Hp1 Hp3 HO]
  · iframe HR Hc1 Hc2 Hp1 Hp3 HO
  iintro ⟨HO, Hp1, Hp2, Hp3, #Hp4, Hb, Hv⟩
  iapply Hc
  rw [par_next, half_next, show t + 1 - 2 = t - 1 by omega]
  iframe Hk Hp' Hp1 Hp2 Hp3 Hp4 Hcc Hcs Hct Hrc Hra Hb Hv HO

theorem grantOne (d : Bool) (c : Dev nD) {t j a a' b' : ℕ} (hj : j < 28) {k : PP F} {Q : PUnit → sProp 𝕄} :
    iprop(Recs I κ ιs ∗ Gh d c t j ∗ rdr d c j ∗ relAll d c (j + 2) ∗ slotAny (rcvM d) (par j) c
        ∗ reached ER (rcvCell d c (par (j + 2))) ((j + 2) / 2) ∗ owd d c a j a' b')
      ⊢ iprop((iprop(Gh d c t (j + 1) ∗ rdr d c (j + 2) ∗ relAll d c (j + 3) ∗ owd d c a (j + 1) a' b') -∗ WP c k Q)
          -∗ WP c (grant d c k) Q) := by
  have hO : Od d c a j + Od (!d) c a' b' = (Od d c a (j + 1) + Od (!d) c a' b') + tallyAt (credCell d (toD (!d) c)) j 1 := by
    rw [Od_grant d c a hj, add_right_comm]
  rw [rdr_next]
  unfold Gh owd rdr
  iintro ⟨#HR, ⟨Hk, Hp, Hp', Hcc, Hcs, Hct, #Hrc, #Hra⟩, Hr, #Ha, HS, #Hrr, HO⟩ Hc
  imod (op_release (κ := κ) (ιs := ιs) d (par j) c (j / 2 + 1)) $$ [Hr HS] with ⟨Hr, #Hrel⟩
  · iframe HR Hr HS
  ihave #Hf : relF d c (j + 2) $$ []
  · rw [relF_next]; iframe Hrel Hrr
  ihave #Ha' := (relAll_succ d c (j + 2)) $$ []
  · isplitr; · iexact Ha
    iexact Hf
  ihave Hct := (credToks_take d c hj) $$ Hct
  icases Hct with ⟨Ht, Hct⟩
  iapply (op_grant (κ := κ) (ιs := ιs) d c hj hO) $$ [Ht HO]
  · isplitr; · iexact HR
    isplitl [Ht]; · iexact Ht
    isplitr; · iexact Hrc
    isplitr; · iexact Ha'
    iexact HO
  iintro HO
  iapply Hc
  iframe Hk Hp Hp' Hcc Hcs Hct Hrc Hra Hr Ha' HO

/-! ## A step of the reduction -/

/-- A direction before step `t` of the reduction. -/
def P1 (I : Ins F) (d : Bool) (c : Dev nD) (t : ℕ) : sProp 𝕄 :=
  iprop(Gh d c t t ∗ rdr d c t ∗ rdr d c (t + 1) ∗ relAll d c (t + 2) ∗ slotAt (sndM d) (par t) c (V I d t c) ∗ slotAny (sndM d) (par (t + 1)) c)
/-- The same after its send. -/
def M1 (d : Bool) (c : Dev nD) (t : ℕ) : sProp 𝕄 :=
  iprop(Mid d c t t ∗ rdr d c t ∗ rdr d c (t + 1) ∗ relAll d c (t + 2) ∗ slotAny (sndM d) (par (t + 1)) c)

omit [FloatOps F] in
theorem sndBack_early (d : Bool) (c : Dev nD) {t : ℕ} (ht : t ≤ 15) : (sndBack d c (par t) (t / 2) : sProp 𝕄) = slotAny (sndM d) (par t) c := by
  unfold sndBack; rw [par_val, if_pos ht]

theorem send1 (d : Bool) (c : Dev nD) {t a' b' : ℕ} (ht : t ≤ 14) (ha' : t ≤ a') (hb' : t ≤ b' + 1) {k : PP F} {Q : PUnit → sProp 𝕄} :
    iprop(Recs I κ ιs ∗ P1 I d c t ∗ owd d c t t a' b')
      ⊢ iprop((iprop(M1 d c t ∗ owd d c (t + 1) t a' b') -∗ WP c k Q)
          -∗ WP c ((if 2 ≤ t then credit d else id) (send d (sndM d) (sndW d) (par t) (par t) c k)) Q) := by
  unfold P1 M1
  iintro ⟨#HR, ⟨HG, Hr, Hr', Ha, Hs, Hs'⟩, HO⟩ Hc
  iapply (sendOne (κ := κ) (ιs := ιs) (t := t) (b := t) (a' := a') (b' := b') d (sndM d) (sndW d) (par t) c (by omega) (Entails.of_eq (sndBack_early d c (by omega)).symm) (by omega) ha' hb') $$ [HG Hs HO]
  · iframe HR HG Hs HO
  iintro ⟨HM, HO⟩
  iapply Hc
  iframe HM Hr Hr' Ha Hs' HO

theorem sends_eq (m : Bool → Memref sig .tc .vmem S2x256x4096 .bf16) (h : ∀ d, (m d).IsWhole) (s : Fin 2) (t : ℕ) (c : Dev nD) (k : PP F) :
    sends m h s t c k = (if 2 ≤ t then credit true else id) (send true (m true) (h true) s (par t) c
      ((if 2 ≤ t then credit false else id) (send false (m false) (h false) s (par t) c k))) := by
  unfold sends; split <;> rfl

theorem sends1 (c : Dev nD) {t : ℕ} (ht : t ≤ 14) {k : PP F} {Q : PUnit → sProp 𝕄} :
    iprop(Recs I κ ιs ∗ P1 I true c t ∗ P1 I false c t ∗ owd true c t t t t)
      ⊢ iprop((iprop(M1 true c t ∗ M1 false c t ∗ owd true c (t + 1) t (t + 1) t) -∗ WP c k Q) -∗ WP c (sends sndM sndW (par t) t c k) Q) := by
  rw [sends_eq]
  iintro ⟨#HR, HA, HB, HO⟩ Hc
  iapply (send1 (κ := κ) (ιs := ιs) (a' := t) (b' := t) true c ht (by omega) (by omega)) $$ [HA HO]
  · iframe HR HA HO
  iintro ⟨HA, HO⟩
  ihave HO := (Entails.of_eq (owd_swap true c (t + 1) t t t)) $$ HO
  iapply (send1 (κ := κ) (ιs := ιs) (a' := t + 1) (b' := t) false c ht (by omega) (by omega)) $$ [HB HO]
  · isplitr; · iexact HR
    isplitl [HB]; · iexact HB
    iexact HO
  iintro ⟨HB, HO⟩
  ihave HO := (Entails.of_eq (owd_swap false c (t + 1) t (t + 1) t)) $$ HO
  iapply Hc
  isplitl [HA]; · iexact HA
  isplitl [HB]; · iexact HB
  iexact HO

theorem V_reduce (I : Ins F) (d : Bool) (c : Dev nD) {t : ℕ} (ht : t < 14) :
    V I d (t + 1) c = k0_pay8 (k0_pay5 (xAt I c (xOff c d t) (xOff_inb c d t)) (wAt I c d)) (V I d t (toD (!d) c)) := by
  rw [V, if_pos ht]; rfl

theorem half1 (d : Bool) (c : Dev nD) {t a' b' : ℕ} (ht : t < 14) (ha' : t < a') (hb' : t ≤ b' + 1) {k : PP F} {Q : PUnit → sProp 𝕄} :
    iprop(Recs I κ ιs ∗ M1 d c t ∗ owd d c (t + 1) t a' b')
      ⊢ iprop((iprop(P1 I d c (t + 1) ∗ owd d c (t + 1) (t + 1) a' b') -∗ WP c k Q)
          -∗ WP c (reduceHalf d t c (xAt I c (xOff c d t) (xOff_inb c d t)) (wAt I c d) k) Q) := by
  unfold M1 P1 reduceHalf
  iintro ⟨#HR, ⟨HM, Hr, Hr', Ha, Hs'⟩, HO⟩ Hc
  iapply (waitOne (κ := κ) (ιs := ιs) (t := t) (b := t) (a' := a') (b' := b') d (sndM d) (sndW d) (par t) c (by omega) (blk_credit' d (par t)) (by omega) ha' hb') $$ [HM HO]
  · iframe HR HM HO
  iintro ⟨HG, Hb, Hv, #Hrr, HO⟩
  iapply (op_ld (rcvM d) (par t) c) $$ Hv; iintro Hv
  iapply (op_st (sndM d) (sndW d) (par (t + 1)) c) $$ Hs'; iintro Hs'
  ihave Hv := (slotAt_any (rcvM d) (par t) c _) $$ Hv
  iapply (grantOne (κ := κ) (ιs := ιs) (t := t + 1) (j := t) (a := t + 1) (a' := a') (b' := b') d c (by omega)) $$ [HG Hr Ha Hv HO]
  · iframe HR HG Hr Ha Hv Hrr HO
  iintro ⟨HG, Hr, Ha, HO⟩
  iapply Hc
  ihave Hs' := (Entails.of_eq (congrArg (slotAt (sndM d) (par (t + 1)) c) (V_reduce I d c ht).symm)) $$ Hs'
  ihave Hb := (Entails.of_eq ((sndBack_early d c (by omega)).trans (congrArg (fun s => slotAny (sndM d) s c) (par_next t).symm))) $$ Hb
  isplitr [HO]
  · isplitl [HG]; · iexact HG
    isplitl [Hr']; · iexact Hr'
    isplitl [Hr]; · iexact Hr
    isplitl [Ha]; · iexact Ha
    isplitl [Hs']; · iexact Hs'
    iexact Hb
  iexact HO

/-- The staged operands. -/
abbrev xw (I : Ins F) (c : Dev nD) : sProp 𝕄 := iprop(xPts I c ∗ wbPts I c)

/-- Before step `t` of the reduction. -/
def S1 (I : Ins F) (c : Dev nD) (t : ℕ) : sProp 𝕄 := iprop(xw I c ∗ P1 I true c t ∗ P1 I false c t ∗ owd true c t t t t)

theorem step1 (c : Dev nD) {t : ℕ} (ht : t < 14) {k : PP F} {Q : PUnit → sProp 𝕄} :
    iprop(Recs I κ ιs ∗ S1 I c t) ⊢ iprop((S1 I c (t + 1) -∗ WP c k Q) -∗ WP c (reduceStep c t k) Q) := by
  unfold S1 reduceStep
  iintro ⟨#HR, ⟨Hx, HA, HB, HO⟩⟩ Hc
  iapply (sends1 (κ := κ) (ιs := ιs) c (by omega)) $$ [HA HB HO]
  · iframe HR HA HB HO
  iintro ⟨HA, HB, HO⟩
  iapply (op_chunk true c _ _) $$ Hx; iintro Hx
  iapply (op_chunk false c _ _) $$ Hx; iintro Hx
  iapply (half1 (κ := κ) (ιs := ιs) (a' := t + 1) (b' := t) true c ht (by omega) (by omega)) $$ [HA HO]
  · iframe HR HA HO
  iintro ⟨HA, HO⟩
  ihave HO := (Entails.of_eq (owd_swap true c (t + 1) (t + 1) (t + 1) t)) $$ HO
  iapply (half1 (κ := κ) (ιs := ιs) (a' := t + 1) (b' := t + 1) false c ht (by omega) (by omega)) $$ [HB HO]
  · isplitr; · iexact HR
    isplitl [HB]; · iexact HB
    iexact HO
  iintro ⟨HB, HO⟩
  ihave HO := (Entails.of_eq (owd_swap false c (t + 1) (t + 1) (t + 1) (t + 1))) $$ HO
  iapply Hc
  isplitl [Hx]; · iexact Hx
  isplitl [HA]; · iexact HA
  isplitl [HB]; · iexact HB
  iexact HO

/-- A chain of steps keeps what each keeps. -/
theorem iter_rule {f : ℕ → PP F → PP F} {P : ℕ → sProp 𝕄} {c : Dev nD} {R : sProp 𝕄} [BI.Persistent R] {Q : PUnit → sProp 𝕄} (n a : ℕ)
    (hf : ∀ t, a ≤ t → t < a + n → ∀ k, iprop(R ∗ P t) ⊢ iprop((P (t + 1) -∗ WP c k Q) -∗ WP c (f t k) Q)) (k : PP F) :
    iprop(R ∗ P a) ⊢ iprop((P (a + n) -∗ WP c k Q) -∗ WP c (iter f n a k) Q) := by
  induction n generalizing a with
  | zero =>
    iintro ⟨-, HP⟩ Hk
    iapply Hk; iexact HP
  | succ n ih =>
    iintro ⟨#HR, HP⟩ Hk
    unfold iter
    iapply (hf a (Nat.le_refl a) (by omega) _) $$ [HP]
    · isplitr; · iexact HR
      iexact HP
    iintro HP
    iapply (ih (a + 1) (fun t h1 h2 k => hf t (by omega) (by omega) k)) $$ [HP]
    · isplitr; · iexact HR
      iexact HP
    rw [show a + 1 + n = a + (n + 1) by omega]
    iexact Hk

/-! ## The last step of the reduction -/

theorem V_finish (I : Ins F) (d : Bool) (c : Dev nD) :
    V I d 15 c = k0_pay79 (scAt I c) (k0_pay5 (xAt I c (xOff c d 14) (xOff_inb c d 14)) (wAt I c d)) (V I d 14 (toD (!d) c)) := by
  show (if 14 < 14 then _ else if 14 = 14 then _ else _) = _
  rw [if_neg (by decide), if_pos rfl]; rfl

theorem halfF (d : Bool) (c : Dev nD) {a' b' : ℕ} (ha' : 14 < a') (hb' : 14 ≤ b' + 1) {k : PP F} {Q : PUnit → sProp 𝕄} :
    iprop(Recs I κ ιs ∗ M1 d c 14 ∗ ownAny d c ∗ owd d c 15 14 a' b')
      ⊢ iprop((iprop(P1 I d c 15 ∗ ownAt d c (fin I d c) ∗ owd d c 15 15 a' b') -∗ WP c k Q)
          -∗ WP c (finishHalf d c (scAt I c) (xAt I c (xOff c d 14) (xOff_inb c d 14)) (wAt I c d) k) Q) := by
  unfold M1 P1 finishHalf
  iintro ⟨#HR, ⟨HM, Hr, Hr', Ha, Hs'⟩, Hw, HO⟩ Hc
  iapply (waitOne (κ := κ) (ιs := ιs) (t := 14) (b := 14) (a' := a') (b' := b') d (sndM d) (sndW d) (par 14) c (by omega) (blk_credit' d (par 14)) (by omega) ha' hb') $$ [HM HO]
  · iframe HR HM HO
  iintro ⟨HG, Hb, Hv, #Hrr, HO⟩
  iapply (op_ld (rcvM d) (par 14) c) $$ Hv; iintro Hv
  iapply (op_ownStore d c) $$ Hw; iintro Hw
  iapply (op_st (sndM d) (sndW d) (par 15) c) $$ Hs'; iintro Hs'
  ihave Hv := (slotAt_any (rcvM d) (par 14) c _) $$ Hv
  iapply (grantOne (κ := κ) (ιs := ιs) (t := 15) (j := 14) (a := 15) (a' := a') (b' := b') d c (by omega)) $$ [HG Hr Ha Hv HO]
  · iframe HR HG Hr Ha Hv Hrr HO
  iintro ⟨HG, Hr, Ha, HO⟩
  iapply Hc
  ihave Hs' := (Entails.of_eq (congrArg (slotAt (sndM d) (par 15) c) (V_finish I d c).symm)) $$ Hs'
  ihave Hb := (Entails.of_eq (sndBack_early d c (by omega))) $$ Hb
  isplitr [Hw HO]
  · isplitl [HG]; · iexact HG
    isplitl [Hr']; · iexact Hr'
    isplitl [Hr]; · iexact Hr
    isplitl [Ha]; · iexact Ha
    isplitl [Hs']; · iexact Hs'
    iexact Hb
  isplitl [Hw]; · iexact Hw
  iexact HO

/-- What the copy of a finished block starts from. -/
abbrev ownPre (d : Bool) (c : Dev nD) : sProp 𝕄 := iprop(ownAny d c ∗ oAny c (wOff c d) (wOff_inb c d) ∗ semVal (ownCell d c) 0)

theorem stepF (c : Dev nD) {k : PP F} {Q : PUnit → sProp 𝕄} :
    iprop(Recs I κ ιs ∗ S1 I c 14 ∗ ownPre true c ∗ ownPre false c)
      ⊢ iprop((iprop(S1 I c 15 ∗ ownFl I true c ∗ ownFl I false c) -∗ WP c k Q) -∗ WP c (finishStep c (scAt I c) k) Q) := by
  unfold S1 finishStep
  iintro ⟨#HR, ⟨Hx, HA, HB, HO⟩, ⟨Hwa, Hoa, Hza⟩, ⟨Hwb, Hob, Hzb⟩⟩ Hc
  iapply (sends1 (κ := κ) (ιs := ιs) c (by omega)) $$ [HA HB HO]
  · iframe HR HA HB HO
  iintro ⟨HA, HB, HO⟩
  iapply (op_chunk true c _ _) $$ Hx; iintro Hx
  iapply (op_chunk false c _ _) $$ Hx; iintro Hx
  iapply (halfF (κ := κ) (ιs := ιs) (a' := 15) (b' := 14) true c (by omega) (by omega)) $$ [HA Hwa HO]
  · iframe HR HA Hwa HO
  iintro ⟨HA, Hwa, HO⟩
  ihave HO := (Entails.of_eq (owd_swap true c 15 15 15 14)) $$ HO
  iapply (halfF (κ := κ) (ιs := ιs) (a' := 15) (b' := 15) false c (by omega) (by omega)) $$ [HB Hwb HO]
  · isplitr; · iexact HR
    isplitl [HB]; · iexact HB
    isplitl [Hwb]; · iexact Hwb
    iexact HO
  iintro ⟨HB, Hwb, HO⟩
  ihave HO := (Entails.of_eq (owd_swap false c 15 15 15 15)) $$ HO
  iapply (op_ownOut true c) $$ [Hwa Hoa Hza]
  · iframe Hwa Hoa Hza
  iintro Hwa
  iapply (op_ownOut false c) $$ [Hwb Hob Hzb]
  · iframe Hwb Hob Hzb
  iintro Hwb
  iapply Hc
  isplitr [Hwa Hwb]
  · isplitl [Hx]; · iexact Hx
    isplitl [HA]; · iexact HA
    isplitl [HB]; · iexact HB
    iexact HO
  isplitl [Hwa]; · iexact Hwa
  iexact Hwb

end Cert.KernelIdeal.RS

end
-- ==== Proof.KernelIdeal.Gather.lean ====
/-
# The gathering

A step sends on what arrived the step before and copies what arrives into the result. Of the two staging slots of a
direction each is free again once the copy of two steps before has ended.
-/
module

public import proofs.«01_k».proof.Proof.KernelIdeal.Steps

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-! ## The copies out -/

/-- The staging slot of step `15 + i` with its counter: free at first, then held by the copy of two steps before. -/
def oSlot (I : Ins F) (d : Bool) (c : Dev nD) (i : ℕ) : sProp 𝕄 :=
  if 2 ≤ i then outFl I d c (i - 2) else iprop(slotAny (stgM d) (par (15 + i)) c ∗ semVal (outCell d c (par (15 + i))) 0)
/-- The blocks of the result not yet written from step `15 + r` on, and the first `n` blocks written. -/
def oTodo (d : Bool) (c : Dev nD) (r : ℕ) : sProp 𝕄 := bigSep (Finset.Ico r 15) (fun i => oAny c (oOff c d i) (oOff_inb c d i))
def oDone (I : Ins F) (d : Bool) (c : Dev nD) (n : ℕ) : sProp 𝕄 :=
  bigSep (Finset.range n) (fun i => oAt c (oOff c d i) (oOff_inb c d i) (got I d c i))
/-- The copies out before step `15 + r`. -/
def OutSt (I : Ins F) (d : Bool) (c : Dev nD) (r : ℕ) : sProp 𝕄 :=
  iprop(oSlot I d c r ∗ oSlot I d c (r + 1) ∗ oTodo d c r ∗ oDone I d c (r - 2))

theorem oTodo_take (d : Bool) (c : Dev nD) {r : ℕ} (h : r < 15) :
    oTodo d c r ⊢ (iprop(oAny c (oOff c d r) (oOff_inb c d r) ∗ oTodo d c (r + 1)) : sProp 𝕄) :=
  Entails.of_eq (bigSep_Ico_succ_bot h fun i => oAny c (oOff c d i) (oOff_inb c d i))
theorem oDone_add (I : Ins F) (d : Bool) (c : Dev nD) (n : ℕ) :
    iprop(oAt c (oOff c d n) (oOff_inb c d n) (got I d c n) ∗ oDone I d c n) ⊢ (oDone I d c (n + 1) : sProp 𝕄) := by
  unfold oDone
  rw [Finset.range_add_one]
  exact Entails.of_eq (bigSep_insert (Φ := fun i => oAt c (oOff c d i) (oOff_inb c d i) (got I d c i)) Finset.notMem_range_self).symm

theorem oSlot_late (I : Ins F) (d : Bool) (c : Dev nD) (i : ℕ) : oSlot I d c (i + 2) = outFl I d c i := by
  unfold oSlot; rw [if_pos (by omega)]; rfl

theorem op_copyOut (d : Bool) (c : Dev nD) {r a b a' b' : ℕ} (hr : r < 15) {k : PP F} {Q : PUnit → sProp 𝕄} :
    iprop(Recs I κ ιs ∗ OutSt I d c r ∗ slotAt (rcvM d) (par (15 + r)) c (V I d (15 + r) (toD (!d) c)) ∗ owd d c a b a' b')
      ⊢ iprop((iprop(OutSt I d c (r + 1) ∗ slotAt (rcvM d) (par (15 + r)) c (V I d (15 + r) (toD (!d) c)) ∗ owd d c a b a' b') -∗ WP c k Q)
          -∗ WP c ((if 2 ≤ r then outWait d c (r - 2) else id) (stageOut d c r k)) Q) := by
  have hO : Above 0 (Od d c a b + Od (!d) c a' b') := (Od_above d c (by omega) (by omega)).add (Od_above (!d) c (by omega) (by omega))
  by_cases h2 : 2 ≤ r
  · obtain ⟨n, rfl⟩ : ∃ n, r = n + 2 := ⟨r - 2, by omega⟩
    unfold OutSt owd
    rw [if_pos h2, oSlot_late I d c n, show n + 2 + 1 + 1 = (n + 2) + 2 from rfl, oSlot_late I d c (n + 2), show n + 2 - 2 = n from rfl, show n + 2 + 1 - 2 = n + 1 from rfl]
    iintro ⟨#HR, ⟨Hs, Hs', Ht, Hd⟩, Hv, HO⟩ Hk
    ihave Ht := (oTodo_take d c hr) $$ Ht
    icases Ht with ⟨Ho, Ht⟩
    iapply (op_outWait (κ := κ) (ιs := ιs) d c n hO) $$ [Hs HO]
    · iframe HR Hs HO
    iintro ⟨HO, Ha, Hs, Hz⟩
    ihave Hd := (oDone_add I d c n) $$ [Ha Hd]
    · isplitl [Ha]; · iexact Ha
      iexact Hd
    have e : par (15 + n) = par (15 + (n + 2)) := (par_next (15 + n)).symm
    ihave Hs := (Entails.of_eq (congrArg (fun s => slotAny (stgM d) s c) e)) $$ Hs
    ihave Hz := (Entails.of_eq (congrArg (fun s => semVal (outCell d c s) 0) e)) $$ Hz
    iapply (op_stageOut d c (n + 2)) $$ [Hv Hs Ho Hz]
    · isplitl [Hv]; · iexact Hv
      isplitl [Hs]; · iexact Hs
      isplitl [Ho]; · iexact Ho
      iexact Hz
    iintro ⟨Hv, Hf⟩
    iapply Hk
    iframe Hs' Hf Ht Hd Hv HO
  · have e : oSlot I d c r = iprop(slotAny (stgM d) (par (15 + r)) c ∗ semVal (outCell d c (par (15 + r))) 0) := by
      unfold oSlot; rw [if_neg h2]
    unfold OutSt owd
    rw [if_neg h2, e, show r - 2 = 0 by omega, show r + 1 - 2 = 0 by omega, show r + 1 + 1 = r + 2 from rfl, oSlot_late I d c r]
    iintro ⟨#HR, ⟨⟨Hs, Hz⟩, Hs', Ht, Hd⟩, Hv, HO⟩ Hk
    ihave Ht := (oTodo_take d c hr) $$ Ht
    icases Ht with ⟨Ho, Ht⟩
    iapply (op_stageOut d c r) $$ [Hv Hs Ho Hz]
    · iframe Hv Hs Ho Hz
    iintro ⟨Hv, Hf⟩
    iapply Hk
    iframe Hs' Hf Ht Hd Hv HO

/-! ## What a direction holds -/

/-- The last step before `15 + r` whose slot is still held when step `15 + r` starts, counted from step 14. -/
def held (r : ℕ) : ℕ := min (max r 1) 14

/-- What a direction holds of the slots its sends no longer need. -/
def spare (d : Bool) (c : Dev nD) (r : ℕ) : sProp 𝕄 :=
  if r = 0 then slotAny (sndM d) (par 16) c
  else if r ≤ 14 then iprop(slotAny (sndM d) 0 c ∗ slotAny (sndM d) 1 c)
  else iprop(slotAny (rcvM d) (par 28) c ∗ slotAny (sndM d) 0 c ∗ slotAny (sndM d) 1 c)

/-- The readers' counts. -/
def rdrs (d : Bool) (c : Dev nD) (q : ℕ) : sProp 𝕄 := iprop(rdr d c (14 + q) ∗ rdr d c (15 + q) ∗ relAll d c (16 + q))

/-- The slot a gathering step sends from. -/
abbrev srcS (r : ℕ) : Fin 2 := par (14 + r + if r = 0 then 1 else 0)

/-- A direction before step `15 + r`. -/
def P2 (I : Ins F) (d : Bool) (c : Dev nD) (r : ℕ) : sProp 𝕄 :=
  iprop(Gh d c (15 + r) (14 + held r) ∗ rdrs d c (held r) ∗ spare d c r ∗ OutSt I d c r ∗ slotAt (srcM r d) (srcS r) c (V I d (15 + r) c))
/-- After its send. -/
def M2 (I : Ins F) (d : Bool) (c : Dev nD) (r : ℕ) : sProp 𝕄 :=
  iprop(Mid d c (15 + r) (14 + held r) ∗ rdrs d c (held r) ∗ spare d c r ∗ OutSt I d c r)

omit [FloatOps F] in
theorem back2 (d : Bool) (c : Dev nD) (r : ℕ) : (slotAny (srcM r d) (srcS r) c : sProp 𝕄) = sndBack d c (par (15 + r)) ((15 + r) / 2) := by
  unfold sndBack srcS srcM
  rw [par_val]
  by_cases h : r = 0
  · subst h; rw [if_pos (by decide)]; rfl
  · rw [if_neg h, if_neg h, if_neg (by omega), show 15 + r + 1 = (14 + r) + 2 by omega, par_next, Nat.add_zero]

theorem send2 (d : Bool) (c : Dev nD) {r a' b' : ℕ} (hr : r < 15) (ha' : 15 + r ≤ a') (hb' : 15 + r ≤ b' + 1) {k : PP F} {Q : PUnit → sProp 𝕄} :
    iprop(Recs I κ ιs ∗ P2 I d c r ∗ owd d c (15 + r) (14 + held r) a' b')
      ⊢ iprop((iprop(M2 I d c r ∗ owd d c (15 + r + 1) (14 + held r) a' b') -∗ WP c k Q)
          -∗ WP c ((if 2 ≤ 15 + r then credit d else id) (send d (srcM r d) (srcW r d) (srcS r) (par (15 + r)) c k)) Q) := by
  unfold P2 M2
  iintro ⟨#HR, ⟨HG, Hr, Hp, Ho, Hs⟩, HO⟩ Hc
  iapply (sendOne (κ := κ) (ιs := ιs) (t := 15 + r) (b := 14 + held r) (a' := a') (b' := b') d (srcM r d) (srcW r d) (srcS r) c (by omega)
    (Entails.of_eq (back2 d c r)) (by unfold held; omega) ha' hb') $$ [HG Hs HO]
  · iframe HR HG Hs HO
  iintro ⟨HM, HO⟩
  iapply Hc
  iframe HM Hr Hp Ho HO

theorem sends2 (c : Dev nD) {r : ℕ} (hr : r < 15) {k : PP F} {Q : PUnit → sProp 𝕄} :
    iprop(Recs I κ ιs ∗ P2 I true c r ∗ P2 I false c r ∗ owd true c (15 + r) (14 + held r) (15 + r) (14 + held r))
      ⊢ iprop((iprop(M2 I true c r ∗ M2 I false c r ∗ owd true c (15 + r + 1) (14 + held r) (15 + r + 1) (14 + held r)) -∗ WP c k Q)
          -∗ WP c (sends (srcM r) (srcW r) (srcS r) (15 + r) c k) Q) := by
  have h1 : 15 + r ≤ 14 + held r + 1 := by unfold held; omega
  rw [sends_eq]
  iintro ⟨#HR, HA, HB, HO⟩ Hc
  iapply (send2 (κ := κ) (ιs := ιs) (a' := 15 + r) (b' := 14 + held r) true c hr (by omega) h1) $$ [HA HO]
  · iframe HR HA HO
  iintro ⟨HA, HO⟩
  ihave HO := (Entails.of_eq (owd_swap true c (15 + r + 1) (14 + held r) (15 + r) (14 + held r))) $$ HO
  iapply (send2 (κ := κ) (ιs := ιs) (a' := 15 + r + 1) (b' := 14 + held r) false c hr (by omega) h1) $$ [HB HO]
  · isplitr; · iexact HR
    isplitl [HB]; · iexact HB
    iexact HO
  iintro ⟨HB, HO⟩
  ihave HO := (Entails.of_eq (owd_swap false c (15 + r + 1) (14 + held r) (15 + r + 1) (14 + held r))) $$ HO
  iapply Hc
  isplitl [HA]; · iexact HA
  isplitl [HB]; · iexact HB
  iexact HO

/-- What the waits of a step hand back goes to the device before, as long as that one still sends. -/
theorem passOn (d : Bool) (c : Dev nD) {r a a' b' : ℕ} (hr : r < 15) {k : PP F} {Q : PUnit → sProp 𝕄} :
    iprop(Recs I κ ιs ∗ Gh d c (15 + r + 1) (14 + held r) ∗ rdrs d c (held r) ∗ spare d c r ∗ sndBack d c (par (15 + r)) ((15 + r) / 2)
        ∗ owd d c a (14 + held r) a' b')
      ⊢ iprop((iprop(Gh d c (15 + r + 1) (14 + held (r + 1)) ∗ rdrs d c (held (r + 1)) ∗ spare d c (r + 1) ∗ owd d c a (14 + held (r + 1)) a' b') -∗ WP c k Q)
          -∗ WP c ((if 1 ≤ r ∧ r ≤ 13 then grant d c else id) k) Q) := by
  by_cases h0 : r = 0
  · subst h0
    rw [if_neg (by decide)]
    have e1 : spare (F := F) d c 0 = slotAny (sndM d) 0 c := rfl
    have e2 : spare (F := F) d c (0 + 1) = iprop(slotAny (sndM d) 0 c ∗ slotAny (sndM d) 1 c) := rfl
    have e3 : sndBack (F := F) d c (par (15 + 0)) ((15 + 0) / 2) = slotAny (sndM d) 1 c := rfl
    rw [e1, e2, e3]
    iintro ⟨#HR, HG, Hr, Hp, Hb, HO⟩ Hc
    iapply Hc
    isplitl [HG]; · iexact HG
    isplitl [Hr]; · iexact Hr
    isplitl [Hp Hb]
    · isplitl [Hp]; · iexact Hp
      iexact Hb
    iexact HO
  by_cases h14 : r = 14
  · subst h14
    rw [if_neg (by decide)]
    have e1 : spare (F := F) d c 14 = iprop(slotAny (sndM d) 0 c ∗ slotAny (sndM d) 1 c) := rfl
    have e2 : spare (F := F) d c (14 + 1) = iprop(slotAny (rcvM d) (par 28) c ∗ slotAny (sndM d) 0 c ∗ slotAny (sndM d) 1 c) := rfl
    have e3 : sndBack (F := F) d c (par (15 + 14)) ((15 + 14) / 2) = slotAny (rcvM d) (par 28) c := rfl
    rw [e1, e2, e3]
    iintro ⟨#HR, HG, Hr, Hp, Hb, HO⟩ Hc
    iapply Hc
    isplitl [HG]; · iexact HG
    isplitl [Hr]; · iexact Hr
    isplitl [Hp Hb]
    · isplitl [Hb]; · iexact Hb
      iexact Hp
    iexact HO
  rw [if_pos (by omega)]
  have e1 : spare (F := F) d c r = iprop(slotAny (sndM d) 0 c ∗ slotAny (sndM d) 1 c) := by unfold spare; rw [if_neg h0, if_pos (by omega)]
  have e2 : spare (F := F) d c (r + 1) = iprop(slotAny (sndM d) 0 c ∗ slotAny (sndM d) 1 c) := by unfold spare; rw [if_neg (by omega), if_pos (by omega)]
  have e3 : sndBack (F := F) d c (par (15 + r)) ((15 + r) / 2) = slotAny (rcvM d) (par (14 + r)) c := by
    rw [← back2]; unfold srcS srcM; rw [if_neg h0, if_neg h0, Nat.add_zero]
  have h1 : held r = r := by unfold held; omega
  have h2 : held (r + 1) = r + 1 := by unfold held; omega
  rw [e1, e2, e3, h1, h2]
  unfold rdrs
  iintro ⟨#HR, HG, ⟨Hr, Hr', Ha⟩, Hp, Hb, HO⟩ Hc
  ihave #Hrr : reached ER (rcvCell d c (par (14 + r + 2))) ((14 + r + 2) / 2) $$ [HG]
  · unfold Gh posP
    icases HG with ⟨-, ⟨-, -, -, Hx⟩, -⟩
    rw [show 14 + r + 2 = 15 + r + 1 by omega]
    iexact Hx
  iapply (grantOne (κ := κ) (ιs := ιs) (t := 15 + r + 1) (j := 14 + r) (a := a) (a' := a') (b' := b') d c (by omega)) $$ [HG Hr Ha Hb HO]
  · rw [show 14 + r + 2 = 16 + r by omega]
    iframe HR HG Hr Ha Hb Hrr HO
  rw [show 14 + r + 2 = 15 + (r + 1) by omega, show 14 + r + 3 = 16 + (r + 1) by omega, show 14 + r + 1 = 14 + (r + 1) by omega]
  iintro ⟨HG, Hr, Ha, HO⟩
  iapply Hc
  rw [show 14 + (r + 1) = 15 + r by omega]
  iframe HG Hr' Hr Ha Hp HO

theorem V_gather (I : Ins F) (d : Bool) (c : Dev nD) (r : ℕ) : V I d (15 + r) (toD (!d) c) = V I d (15 + (r + 1)) c := by
  show _ = V I d (15 + r + 1) c
  rw [V, if_neg (by omega), if_neg (by omega)]

theorem half2 (d : Bool) (c : Dev nD) {r a' b' : ℕ} (hr : r < 15) (ha' : 15 + r < a') (hb' : 15 + r ≤ b' + 1) {k : PP F} {Q : PUnit → sProp 𝕄} :
    iprop(Recs I κ ιs ∗ M2 I d c r ∗ owd d c (15 + r + 1) (14 + held r) a' b')
      ⊢ iprop((iprop(P2 I d c (r + 1) ∗ owd d c (15 + r + 1) (14 + held (r + 1)) a' b') -∗ WP c k Q)
          -∗ WP c (gatherHalf d c r k) Q) := by
  have hcr : (blk (srcM r d) (srcS r)).view.dmaCredit = NB := by
    unfold srcM; split
    · exact blk_credit' d _
    · exact blk_credit d _
  have hsrc : slotAt (srcM (r + 1) d) (srcS (r + 1)) c (V I d (15 + (r + 1)) c) = slotAt (rcvM d) (par (15 + r)) c (V I d (15 + r) (toD (!d) c)) := by
    rw [V_gather]
    unfold srcS srcM
    rw [if_neg (by omega), if_neg (by omega), show 14 + (r + 1) + 0 = 15 + r by omega]
  unfold M2 P2 gatherHalf
  rw [hsrc]
  iintro ⟨#HR, ⟨HM, Hr, Hp, Ho⟩, HO⟩ Hc
  iapply (waitOne (κ := κ) (ιs := ιs) (t := 15 + r) (b := 14 + held r) (a' := a') (b' := b') d (srcM r d) (srcW r d) (srcS r) c (by omega) hcr
    (by unfold held; omega) ha' hb') $$ [HM HO]
  · iframe HR HM HO
  iintro ⟨HG, Hb, Hv, -, HO⟩
  iapply (passOn (κ := κ) (ιs := ιs) (a := 15 + r + 1) (a' := a') (b' := b') d c hr) $$ [HG Hr Hp Hb HO]
  · iframe HR HG Hr Hp Hb HO
  iintro ⟨HG, Hr, Hp, HO⟩
  iapply (op_copyOut (κ := κ) (ιs := ιs) (a := 15 + r + 1) (b := 14 + held (r + 1)) (a' := a') (b' := b') d c hr) $$ [Ho Hv HO]
  · iframe HR Ho Hv HO
  iintro ⟨Ho, Hv, HO⟩
  iapply Hc
  isplitr [HO]
  · isplitl [HG]; · iexact HG
    isplitl [Hr]; · iexact Hr
    isplitl [Hp]; · iexact Hp
    isplitl [Ho]; · iexact Ho
    iexact Hv
  iexact HO

/-- Before gathering step `15 + r`. -/
def S2' (I : Ins F) (c : Dev nD) (r : ℕ) : sProp 𝕄 :=
  iprop(P2 I true c r ∗ P2 I false c r ∗ owd true c (15 + r) (14 + held r) (15 + r) (14 + held r))

theorem step2 (c : Dev nD) {r : ℕ} (hr : r < 15) {k : PP F} {Q : PUnit → sProp 𝕄} :
    iprop(Recs I κ ιs ∗ S2' I c r) ⊢ iprop((S2' I c (r + 1) -∗ WP c k Q) -∗ WP c (gatherStep c r k) Q) := by
  have h1 : 15 + r ≤ 14 + held r + 1 := by unfold held; omega
  have h2 : 15 + r ≤ 14 + held (r + 1) + 1 := by unfold held; omega
  unfold S2' gatherStep
  iintro ⟨#HR, ⟨HA, HB, HO⟩⟩ Hc
  iapply (sends2 (κ := κ) (ιs := ιs) c hr) $$ [HA HB HO]
  · iframe HR HA HB HO
  iintro ⟨HA, HB, HO⟩
  iapply (half2 (κ := κ) (ιs := ιs) (a' := 15 + r + 1) (b' := 14 + held r) true c hr (by omega) h1) $$ [HA HO]
  · iframe HR HA HO
  iintro ⟨HA, HO⟩
  ihave HO := (Entails.of_eq (owd_swap true c (15 + r + 1) (14 + held (r + 1)) (15 + r + 1) (14 + held r))) $$ HO
  iapply (half2 (κ := κ) (ιs := ιs) (a' := 15 + r + 1) (b' := 14 + held (r + 1)) false c hr (by omega) h2) $$ [HB HO]
  · isplitr; · iexact HR
    isplitl [HB]; · iexact HB
    iexact HO
  iintro ⟨HB, HO⟩
  ihave HO := (Entails.of_eq (owd_swap false c (15 + r + 1) (14 + held (r + 1)) (15 + r + 1) (14 + held (r + 1)))) $$ HO
  iapply Hc
  isplitl [HA]; · iexact HA
  isplitl [HB]; · iexact HB
  iexact HO

/-! ## The end -/

/-- What is left of the copies out after the last step. -/
def outEnd (I : Ins F) (d : Bool) (c : Dev nD) : sProp 𝕄 :=
  iprop(oDone I d c 15 ∗ slotAny (stgM d) 0 c ∗ slotAny (stgM d) 1 c ∗ semVal (outCell d c 0) 0 ∗ semVal (outCell d c 1) 0)
/-- What is left of the copy of the finished block. -/
def ownEnd (I : Ins F) (d : Bool) (c : Dev nD) : sProp 𝕄 :=
  iprop(oAt c (wOff c d) (wOff_inb c d) (fin I d c) ∗ ownAny d c ∗ semVal (ownCell d c) 0)

theorem drainOne (d : Bool) (c : Dev nD) {k : PP F} {Q : PUnit → sProp 𝕄} :
    iprop(Recs I κ ιs ∗ OutSt I d c 15 ∗ ow c 0)
      ⊢ iprop((iprop(outEnd I d c ∗ ow c 0) -∗ WP c k Q) -∗ WP c (outWait d c 13 (outWait d c 14 k)) Q) := by
  unfold OutSt outEnd
  rw [show (15 : ℕ) = 13 + 2 from rfl, oSlot_late, show 13 + 2 + 1 = 14 + 2 from rfl, oSlot_late, show 13 + 2 - 2 = 13 from rfl]
  iintro ⟨#HR, ⟨Ha, Hb, -, Hd⟩, HO⟩ Hk
  iapply (op_outWait (κ := κ) (ιs := ιs) d c 13 (Above.zero 0)) $$ [Ha HO]
  · iframe HR Ha HO
  iintro ⟨HO, Ho, Hs, Hz⟩
  ihave Hd := (oDone_add I d c 13) $$ [Ho Hd]
  · iframe Ho Hd
  iapply (op_outWait (κ := κ) (ιs := ιs) d c 14 (Above.zero 0)) $$ [Hb HO]
  · iframe HR Hb HO
  iintro ⟨HO, Ho, Hs', Hz'⟩
  ihave Hd := (oDone_add I d c 14) $$ [Ho Hd]
  · iframe Ho Hd
  iapply Hk
  isplitr [HO]
  · isplitl [Hd]; · iexact Hd
    isplitl [Hs]; · iexact Hs
    isplitl [Hs']; · iexact Hs'
    isplitl [Hz]; · iexact Hz
    iexact Hz'
  iexact HO

theorem drain_rule (c : Dev nD) {k : PP F} {Q : PUnit → sProp 𝕄} :
    iprop(Recs I κ ιs ∗ OutSt I true c 15 ∗ OutSt I false c 15 ∗ ownFl I true c ∗ ownFl I false c ∗ ow c 0)
      ⊢ iprop((iprop(outEnd I true c ∗ outEnd I false c ∗ ownEnd I true c ∗ ownEnd I false c ∗ ow c 0) -∗ WP c k Q) -∗ WP c (drain c k) Q) := by
  unfold drain ownEnd
  iintro ⟨#HR, Ha, Hb, Hwa, Hwb, HO⟩ Hk
  iapply (drainOne (κ := κ) (ιs := ιs) true c) $$ [Ha HO]
  · iframe HR Ha HO
  iintro ⟨Ha, HO⟩
  iapply (drainOne (κ := κ) (ιs := ιs) false c) $$ [Hb HO]
  · iframe HR Hb HO
  iintro ⟨Hb, HO⟩
  iapply (op_ownWait (κ := κ) (ιs := ιs) true c (Above.zero 0)) $$ [Hwa HO]
  · iframe HR Hwa HO
  iintro ⟨HO, Hwa⟩
  iapply (op_ownWait (κ := κ) (ιs := ιs) false c (Above.zero 0)) $$ [Hwb HO]
  · iframe HR Hwb HO
  iintro ⟨HO, Hwb⟩
  iapply Hk
  iframe Ha Hb Hwa Hwb HO

end Cert.KernelIdeal.RS

end
-- ==== Proof.KernelIdeal.Body.lean ====
/-
# The body on one device

From what a device is given at the start to what it hands back at the end.
-/
module

public import proofs.«01_k».proof.Proof.KernelIdeal.Gather

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-! ## The start -/

/-- What a device owes at the start: a signal to either neighbour, and all sends and credits. -/
def O₀ (c : Dev nD) : CellTallies nD τ sig ℕ :=
  ((Od true c 0 0 + Od false c 0 0) + tallyAt (barCell (toD false c)) 0 1) + tallyAt (barCell (toD true c)) 0 1

/-- What a device needs for the entry barrier. -/
def barPre (c : Dev nD) : sProp 𝕄 :=
  iprop(dutyTok ER (barCell (toD true c)) 0 1 ∗ reached ER (barCell (toD true c)) 0 ∗ dutyTok ER (barCell (toD false c)) 0 0
    ∗ reached ER (barCell (toD false c)) 0 ∗ cred (tallyAt (barCell c) 0 2) ∗ atPos ER (barCell c) 0 ∅ 0)

theorem op_barrier (c : Dev nD) {k : PP F} {Q : PUnit → sProp 𝕄} :
    iprop(Recs I κ ιs ∗ barPre c ∗ relAll true c 2 ∗ relAll false c 2 ∗ ow c (O₀ c))
      ⊢ iprop((iprop(owd true c 0 0 0 0 ∗ relAll true (toD true c) 2 ∗ relAll false (toD false c) 2 ∗ atPos ER (barCell c) 1 ∅ 0) -∗ WP c k Q)
          -∗ WP c (barrier c k) Q) := by
  have hp : bigSep ((Rd I).duties (barCell c) 0 \ ∅) (fun k => (Rd I).payload (barCell c) 0 k)
      ⊢ (iprop(relAll true (toD true c) 2 ∗ relAll false (toD false c) 2) : sProp 𝕄) := by
    rw [Finset.sdiff_empty, duties_bar, bigSep_insert (by decide), bigSep_singleton]
    exact Entails.of_eq rfl
  have hO : Above 1 (Od true c 0 0 + Od false c 0 0) := (Od_above true c (by omega) (by omega)).add (Od_above false c (by omega) (by omega))
  unfold barPre barrier owd ow
  iintro ⟨#HR, ⟨Ht1, #Hr1, Ht2, #Hr2, Hc, Hat⟩, #Ha, #Hb, ⟨%W, HO⟩⟩ Hk
  ihave #Hc0 := (rec_cell I κ ιs (mem_bar c)) $$ HR
  ihave #Hc1 := (rec_cell I κ ιs (mem_bar (toD true c))) $$ HR
  ihave #Hc2 := (rec_cell I κ ιs (mem_bar (toD false c))) $$ HR
  iapply (Rounds.wp_signal 𝒱₀ ER (Rd I) (c : Thread nD τ) none (dst := (toD true c : Thread nD τ)) (κ := κ (barCell (toD true c)))
      (d := 1) (by rw [duties_bar]; decide) ((amount_bar I (toD true c) 0 1).trans (by decide)) 0 _ rfl) $$ [HO Ht1]
  · isplitr; · iexact Hc1
    isplitl [HO]; · iexact HO
    isplitl [Ht1]; · iexact Ht1
    isplitr; · rw [show (Rd I).payload (barCell (toD true c)) 0 1 = relAll false (toD false (toD true c)) 2 from rfl, show toD false (toD true c) = c from to_back true c]; iexact Hb
    iexact Hr1
  iintro HO
  iapply (Rounds.wp_signal 𝒱₀ ER (Rd I) (c : Thread nD τ) none (dst := (toD false c : Thread nD τ)) (κ := κ (barCell (toD false c)))
      (d := 0) (by rw [duties_bar]; decide) ((amount_bar I (toD false c) 0 0).trans (by decide)) 0 _ rfl) $$ [HO Ht2]
  · isplitr; · iexact Hc2
    isplitl [HO]; · iexact HO
    isplitl [Ht2]; · iexact Ht2
    isplitr; · rw [show (Rd I).payload (barCell (toD false c)) 0 0 = relAll true (toD true (toD false c)) 2 from rfl, show toD true (toD false c) = c from to_back false c]; iexact Ha
    iexact Hr2
  iintro HO
  iapply (Rounds.wp_wait_rest_token 𝒱₀ ER (Rd I) (c : Thread nD τ) none (κ := κ (barCell c))
      (wpE_semWait_eq 𝒱₀ (c : Thread nD τ) none Set.univ) (Set.mem_univ _) 0 (W := W) (R := 0) (m := 0) (T := ∅)
      (by rw [expect_bar]; decide)) $$ [Hc HO Hat]
  · isplitr; · iexact Hc0
    isplitl [Hc]; · iexact Hc
    isplitl [HO]; · iexact HO
    isplitr; · iapply (rec_may I κ ιs c (.reg barSem) (by omega) (by rw [lv_bar]) hO); iexact HR
    iexact Hat
  iintro ⟨HO, Hat, -, Hp⟩
  ihave Hp := hp $$ Hp
  icases Hp with ⟨Hp1, Hp2⟩
  iapply Hk
  isplitl [HO]; · iexists _; iexact HO
  isplitl [Hp1]; · iexact Hp1
  isplitl [Hp2]; · iexact Hp2
  iexact Hat

/-- The other staged operands, and the buffer of the widened `w` before it is filled. -/
def wPts (I : Ins F) (c : Dev nD) : sProp 𝕄 := (((c : Thread nD τ).loc cc0_stg1_0) ↦{fullShare} I.w c)
def sPts (I : Ins F) (c : Dev nD) : sProp 𝕄 :=
  iprop((((c : Thread nD τ).loc cc0_stg2_0) ↦{fullShare} I.sx c) ∗ (((c : Thread nD τ).loc cc0_stg3_0) ↦{fullShare} I.sw c))
def wbAny (c : Dev nD) : sProp 𝕄 := iprop(∃ f : Buf (Elt F) ((c : Thread nD τ).loc cc0_scratch0), (((c : Thread nD τ).loc cc0_scratch0) ↦{fullShare} f))

theorem op_widen (c : Dev nD) {k : PP F} {Q : PUnit → sProp 𝕄} :
    iprop(wPts I c ∗ wbAny c) ⊢ iprop((iprop(wPts I c ∗ wbPts I c) -∗ WP c k Q) -∗ WP c (widen k) Q) := by
  have h0 : (![0, 0] : Fin 2 → ℕ) = fun _ => 0 := by decide
  have hw : ∀ f : (cc0_scratch0 : Ref sig .tc).ty.Contents (Elt F),
      (View.loc (c : Thread nD τ) (wbM.access (Rect.unit (s := S256x8192) ![0, 0] S256x8192.size inb_S256x8192_S256x8192_0_0)) ↦{fullShare}
        View.write (Elt F) (wbM.access (Rect.unit (s := S256x8192) ![0, 0] S256x8192.size inb_S256x8192_S256x8192_0_0)) f (k0_pay1 (View.read (Elt F) (wM.access (Rect.unit (s := S256x8192) ![0, 0] S256x8192.size inb_S256x8192_S256x8192_0_0)) (I.w c))) Finset.univ)
        ⊢ (wbPts I c : sProp 𝕄) := fun f => Entails.of_eq (congrArg (fun g => (((c : Thread nD τ).loc cc0_scratch0) ↦{fullShare} g : sProp 𝕄))
      (Memref.write_access_unit_zero_univ (Elt F) cc0_scratch0 h0 _ f _))
  unfold wPts wbAny widen
  iintro ⟨Hw, ⟨%f, Hb⟩⟩ Hk
  iapply (wp_load_rect 𝒱₀ (c : Thread nD τ) none Set.univ (m := wM)
    (r := Rect.unit (s := S256x8192) ![0, 0] S256x8192.size inb_S256x8192_S256x8192_0_0) (Finset.subset_univ _)) $$ Hw; iintro Hw
  iapply (wp_load_rect 𝒱₀ (c : Thread nD τ) none Set.univ (m := wbM)
    (r := Rect.unit (s := S256x8192) ![0, 0] S256x8192.size inb_S256x8192_S256x8192_0_0) (Finset.subset_univ _)) $$ Hb; iintro Hb
  iapply (wp_store 𝒱₀ (c : Thread nD τ) none Set.univ (m := wbM)
    (r := Rect.unit (s := S256x8192) ![0, 0] S256x8192.size inb_S256x8192_S256x8192_0_0) (Mk := Finset.univ) (Finset.subset_univ _)) $$ Hb; iintro Hb
  ihave Hb := (hw f) $$ Hb
  iapply Hk
  isplitl [Hw]; · iexact Hw
  iexact Hb

theorem op_scales (c : Dev nD) {k : F .f32 → PP F} {Q : PUnit → sProp 𝕄} :
    sPts I c ⊢ iprop((sPts I c -∗ WP c (k (scAt I c)) Q) -∗ WP c (scales k) Q) := by
  unfold sPts scales
  iintro ⟨Ha, Hb⟩ Hk
  iapply (wp_load_rect 𝒱₀ (c : Thread nD τ) none Set.univ (m := sxM) (r := Rect.unit (s := Cert.KernelIdeal.S1) ![0] (Cert.KernelIdeal.S1).size inb_S1_S1_0) (Finset.subset_univ _)) $$ Ha; iintro Ha
  iapply (wp_load_rect 𝒱₀ (c : Thread nD τ) none Set.univ (m := swM) (r := Rect.unit (s := Cert.KernelIdeal.S1) ![0] (Cert.KernelIdeal.S1).size inb_S1_S1_0) (Finset.subset_univ _)) $$ Hb; iintro Hb
  iapply Hk
  isplitl [Ha]; · iexact Ha
  iexact Hb

theorem op_first (d : Bool) (c : Dev nD) {k : PP F} {Q : PUnit → sProp 𝕄} :
    iprop(xw I c ∗ slotAny (sndM d) 0 c) ⊢ iprop((iprop(xw I c ∗ slotAt (sndM d) (par 0) c (V I d 0 c)) -∗ WP c k Q) -∗ WP c (firstChunk d c k) Q) := by
  unfold firstChunk
  iintro ⟨Hx, Hs⟩ Hk
  iapply (op_chunk d c _ _) $$ Hx; iintro Hx
  ihave Hs := (Entails.of_eq (show slotAny (F := F) (sndM d) 0 c = slotAny (sndM d) (par 0) c from rfl)) $$ Hs
  iapply (op_st (sndM d) (sndW d) (par 0) c) $$ Hs; iintro Hs
  iapply Hk
  isplitl [Hx]; · iexact Hx
  iexact Hs

/-- What a device is given for a direction. -/
def dirPre (d : Bool) (c : Dev nD) : sProp 𝕄 :=
  iprop(kits d c 0 ∗ posP d c 0 ∗ posP d c 1 ∗ credCrs d c 0 ∗ atPos ER (credCell d c) 0 ∅ 0 ∗ credToks d c 0 ∗ reached ER (credCell d (toD (!d) c)) 0
    ∗ readerAt ES (c, d, 0) 0 ∗ readerAt ES (c, d, 1) 0
    ∗ semVal (outCell d c 0) 0 ∗ semVal (outCell d c 1) 0 ∗ semVal (ownCell d c) 0)
/-- Its buffers. -/
def dirBuf (d : Bool) (c : Dev nD) : sProp 𝕄 :=
  iprop((slotAny (sndM d) 0 c ∗ slotAny (sndM d) 1 c) ∗ (slotAny (rcvM d) 0 c ∗ slotAny (rcvM d) 1 c)
    ∗ (slotAny (stgM d) 0 c ∗ slotAny (stgM d) 1 c) ∗ ownAny d c)
/-- Its half of the result, not yet written and written. -/
def dirTodo (d : Bool) (c : Dev nD) : sProp 𝕄 := iprop(oTodo d c 0 ∗ oAny c (wOff c d) (wOff_inb c d))
def dirDone (I : Ins F) (d : Bool) (c : Dev nD) : sProp 𝕄 := iprop(oDone I d c 15 ∗ oAt c (wOff c d) (wOff_inb c d) (fin I d c))
/-- Where its counters end. -/
def dirPost (d : Bool) (c : Dev nD) : sProp 𝕄 :=
  iprop(semVal (sndCell d c 0) 0 ∗ semVal (sndCell d c 1) 0 ∗ semVal (rcvCell d c 0) 0 ∗ semVal (rcvCell d c 1) 0 ∗ semVal (credCell d c) 0
    ∗ semVal (outCell d c 0) 0 ∗ semVal (outCell d c 1) 0 ∗ semVal (ownCell d c) 0)

omit [FloatOps F] in
theorem relAll_two (d : Bool) (c : Dev nD) : iprop(relF d c 0 ∗ relF d c 1) ⊢ (relAll d c 2 : sProp 𝕄) := by
  have h0 : (emp : sProp 𝕄) ⊢ relAll d c 0 := Entails.of_eq bigSep_empty.symm
  iintro ⟨H0, H1⟩
  iapply (relAll_succ d c 1)
  isplitl [H0]
  · iapply (relAll_succ d c 0)
    isplitr
    · iapply h0; iempintro
    iexact H0
  iexact H1

/-- Giving the receive slots to the writers. -/
theorem open_dir (d : Bool) (c : Dev nD) :
    iprop(Recs I κ ιs ∗ posP d c 0 ∗ posP d c 1 ∗ readerAt ES (c, d, 0) 0 ∗ readerAt ES (c, d, 1) 0 ∗ slotAny (rcvM d) 0 c ∗ slotAny (rcvM d) 1 c)
      ⊢ (|={Set.univ}=> iprop(posP d c 0 ∗ posP d c 1 ∗ rdr d c 0 ∗ rdr d c 1 ∗ relAll d c 2) : sProp 𝕄) := by
  unfold posP rdr
  iintro ⟨#HR, ⟨Ha, Hb, Hc, #Hr0⟩, ⟨Ha', Hb', Hc', #Hr1⟩, H0, H1, Hs0, Hs1⟩
  imod (op_release (κ := κ) (ιs := ιs) d 0 c 0) $$ [H0 Hs0] with ⟨H0, #Hl0⟩
  · iframe HR H0 Hs0
  imod (op_release (κ := κ) (ιs := ιs) d 1 c 0) $$ [H1 Hs1] with ⟨H1, #Hl1⟩
  · iframe HR H1 Hs1
  imodintro
  isplitl [Ha Hb Hc]; · iframe Ha Hb Hc Hr0
  isplitl [Ha' Hb' Hc']; · iframe Ha' Hb' Hc' Hr1
  isplitl [H0]; · iexact H0
  isplitl [H1]; · iexact H1
  iapply (relAll_two d c)
  unfold relF
  isplitr
  · isplitr; · iexact Hl0
    iexact Hr0
  · isplitr; · iexact Hl1
    iexact Hr1

omit [FloatOps F] in
theorem credSt_start (d : Bool) (c : Dev nD) : atPos ER (credCell d c) 0 ∅ 0 ⊢ (credSt d c 0 : sProp 𝕄) := by
  have h : (emp : sProp 𝕄) ⊢ bigSep (∅ : Finset ℕ) (fun k => relAll d (toD d c) (k + 3)) := Entails.of_eq bigSep_empty.symm
  unfold credSt credMid
  rw [if_pos (by decide)]
  iintro H
  iexists ∅
  isplitr; · ipureintro; exact Finset.empty_subset _
  isplitl [H]; · iexact H
  iapply h; iempintro

/-- A direction before the first step. -/
theorem enter (d : Bool) (c : Dev nD) :
    iprop((kits d c 0 ∗ posP d c 0 ∗ posP d c 1 ∗ credCrs d c 0 ∗ atPos ER (credCell d c) 0 ∅ 0 ∗ credToks d c 0 ∗ reached ER (credCell d (toD (!d) c)) 0)
        ∗ relAll d (toD d c) 2 ∗ rdr d c 0 ∗ rdr d c 1 ∗ relAll d c 2 ∗ slotAt (sndM d) (par 0) c (V I d 0 c) ∗ slotAny (sndM d) 1 c)
      ⊢ (P1 I d c 0 : sProp 𝕄) := by
  unfold P1 Gh
  iintro ⟨⟨Hk, Hp, Hp', Hcc, Hca, Hct, Hrc⟩, Hra, Hr, Hr', Ha, Hs, Hs'⟩
  ihave Hca := (credSt_start d c) $$ Hca
  isplitl [Hk Hp Hp' Hcc Hca Hct Hrc Hra]
  · isplitl [Hk]; · iexact Hk
    isplitl [Hp]; · iexact Hp
    isplitl [Hp']; · iexact Hp'
    isplitl [Hcc]; · iexact Hcc
    isplitl [Hca]; · iexact Hca
    isplitl [Hct]; · iexact Hct
    isplitl [Hrc]; · iexact Hrc
    iexact Hra
  isplitl [Hr]; · iexact Hr
  isplitl [Hr']; · iexact Hr'
  isplitl [Ha]; · iexact Ha
  isplitl [Hs]; · iexact Hs
  iexact Hs'

/-- A direction between the two phases. -/
theorem middle (d : Bool) (c : Dev nD) :
    iprop(P1 I d c 15 ∗ (slotAny (stgM d) 0 c ∗ slotAny (stgM d) 1 c) ∗ (semVal (outCell d c 0) 0 ∗ semVal (outCell d c 1) 0) ∗ oTodo d c 0)
      ⊢ (P2 I d c 0 : sProp 𝕄) := by
  have h : (emp : sProp 𝕄) ⊢ oDone I d c (0 - 2) := Entails.of_eq bigSep_empty.symm
  unfold P1 P2 rdrs spare OutSt oSlot
  rw [if_pos rfl, if_neg (by decide), if_neg (by decide)]
  iintro ⟨⟨HG, Hr, Hr', Ha, Hs, Hs'⟩, ⟨Hg0, Hg1⟩, ⟨Hv0, Hv1⟩, HT⟩
  isplitl [HG]; · iexact HG
  isplitl [Hr Hr' Ha]
  · isplitl [Hr]; · iexact Hr
    isplitl [Hr']; · iexact Hr'
    iexact Ha
  isplitl [Hs']; · iexact Hs'
  isplitr [Hs]
  · isplitl [Hg1 Hv1]
    · isplitl [Hg1]; · iexact Hg1
      iexact Hv1
    isplitl [Hg0 Hv0]
    · isplitl [Hg0]; · iexact Hg0
      iexact Hv0
    isplitl [HT]; · iexact HT
    iapply h; iempintro
  iexact Hs

/-- The counters of a direction closed at the end. -/
theorem close_dir (d : Bool) (c : Dev nD) :
    iprop(Recs I κ ιs ∗ Gh d c 30 28) ⊢ (|={Set.univ}=> iprop(semVal (sndCell d c 0) 0 ∗ semVal (sndCell d c 1) 0 ∗ semVal (rcvCell d c 0) 0
      ∗ semVal (rcvCell d c 1) 0 ∗ semVal (credCell d c) 0) : sProp 𝕄) := by
  unfold Gh posP credSt
  rw [if_neg (by decide)]
  iintro ⟨#HR, ⟨-, ⟨Hs0, -, Hr0, -⟩, ⟨Hs1, -, Hr1, -⟩, -, Hc, -⟩⟩
  ihave #Hi0 := (rec_cell I κ ιs (mem_snd d c 0)) $$ HR
  ihave #Hi1 := (rec_cell I κ ιs (mem_snd d c 1)) $$ HR
  ihave #Hi2 := (rec_cell I κ ιs (mem_rcv d c 0)) $$ HR
  ihave #Hi3 := (rec_cell I κ ιs (mem_rcv d c 1)) $$ HR
  ihave #Hi4 := (rec_cell I κ ιs (mem_cred d c)) $$ HR
  imod (Rounds.cell_close ER (Rd I) (Set.mem_univ (κ (sndCell d c 0))) (fun h => h) (R := 15) (duties_later I _)) $$ [Hs0] with Hz0
  · isplitr; · iexact Hi0
    iexact Hs0
  imod (Rounds.cell_close ER (Rd I) (Set.mem_univ (κ (sndCell d c 1))) (fun h => h) (R := 15) (duties_later I _)) $$ [Hs1] with Hz1
  · isplitr; · iexact Hi1
    iexact Hs1
  imod (Rounds.cell_close ER (Rd I) (Set.mem_univ (κ (rcvCell d c 0))) (fun h => h) (R := 15) (duties_later I _)) $$ [Hr0] with Hz2
  · isplitr; · iexact Hi2
    iexact Hr0
  imod (Rounds.cell_close ER (Rd I) (Set.mem_univ (κ (rcvCell d c 1))) (fun h => h) (R := 15) (duties_later I _)) $$ [Hr1] with Hz3
  · isplitr; · iexact Hi3
    iexact Hr1
  imod (Rounds.cell_close ER (Rd I) (Set.mem_univ (κ (credCell d c))) (fun h => h) (R := 1)
    (fun r h => duties_one I (credCell d c) r h (Or.inr ⟨d, use_cred d⟩))) $$ [Hc] with Hz4
  · isplitr; · iexact Hi4
    iexact Hc
  imodintro
  isplitl [Hz0]; · iexact Hz0
  isplitl [Hz1]; · iexact Hz1
  isplitl [Hz2]; · iexact Hz2
  isplitl [Hz3]; · iexact Hz3
  iexact Hz4

/-- A direction after the last step. -/
theorem leave (d : Bool) (c : Dev nD) :
    P2 I d c 15 ⊢ (iprop(OutSt I d c 15 ∗ Gh d c 30 28 ∗ slotAny (sndM d) 0 c ∗ slotAny (sndM d) 1 c ∗ slotAny (rcvM d) 0 c ∗ slotAny (rcvM d) 1 c) : sProp 𝕄) := by
  unfold P2 spare
  rw [if_neg (by decide), if_neg (by decide)]
  iintro ⟨HG, -, ⟨Hr0, Hs0, Hs1⟩, HO, Hs⟩
  ihave Hs := (slotAt_any _ _ c _) $$ Hs
  isplitl [HO]; · iexact HO
  isplitl [HG]; · iexact HG
  isplitl [Hs0]; · iexact Hs0
  isplitl [Hs1]; · iexact Hs1
  isplitl [Hr0]; · iexact Hr0
  iexact Hs

/-- What a device has at the end. -/
def endOf (I : Ins F) (d : Bool) (c : Dev nD) : sProp 𝕄 := iprop(dirBuf d c ∗ dirDone I d c ∗ dirPost d c)

theorem end_dir (d : Bool) (c : Dev nD) :
    iprop(Recs I κ ιs ∗ Gh d c 30 28 ∗ (slotAny (sndM d) 0 c ∗ slotAny (sndM d) 1 c ∗ slotAny (rcvM d) 0 c ∗ slotAny (rcvM d) 1 c)
        ∗ outEnd I d c ∗ ownEnd I d c)
      ⊢ (|={Set.univ}=> endOf I d c : sProp 𝕄) := by
  unfold endOf dirBuf dirDone dirPost outEnd ownEnd
  iintro ⟨#HR, HG, ⟨Hs0, Hs1, Hr0, Hr1⟩, ⟨HD, Hg0, Hg1, Hv0, Hv1⟩, ⟨HW, Hw, Hv⟩⟩
  imod (close_dir (κ := κ) (ιs := ιs) d c) $$ [HG] with ⟨Hz0, Hz1, Hz2, Hz3, Hz4⟩
  · isplitr; · iexact HR
    iexact HG
  imodintro
  iframe Hs0 Hs1 Hr0 Hr1 HD Hg0 Hg1 Hv0 Hv1 HW Hw Hv Hz0 Hz1 Hz2 Hz3 Hz4

/-! ## The whole body -/

/-- What a device works on. -/
def bufs (I : Ins F) (c : Dev nD) : sProp 𝕄 := iprop(xPts I c ∗ wPts I c ∗ sPts I c ∗ wbAny c)

/-- What a direction starts from. -/
def startOf (d : Bool) (c : Dev nD) : sProp 𝕄 := iprop(dirPre d c ∗ dirBuf d c ∗ dirTodo d c)

/-- What stays aside until the finished block is copied out. -/
def aside (d : Bool) (c : Dev nD) : sProp 𝕄 :=
  iprop(ownPre d c ∗ (slotAny (stgM d) 0 c ∗ slotAny (stgM d) 1 c) ∗ (semVal (outCell d c 0) 0 ∗ semVal (outCell d c 1) 0) ∗ oTodo d c 0)
/-- What a direction holds after its receive slots are given away. -/
def opened (d : Bool) (c : Dev nD) : sProp 𝕄 :=
  iprop((kits d c 0 ∗ posP d c 0 ∗ posP d c 1 ∗ credCrs d c 0 ∗ atPos ER (credCell d c) 0 ∅ 0 ∗ credToks d c 0 ∗ reached ER (credCell d (toD (!d) c)) 0)
    ∗ rdr d c 0 ∗ rdr d c 1 ∗ slotAny (sndM d) 0 c ∗ slotAny (sndM d) 1 c)

theorem opening (d : Bool) (c : Dev nD) :
    iprop(Recs I κ ιs ∗ startOf d c) ⊢ (|={Set.univ}=> iprop(opened d c ∗ relAll d c 2 ∗ aside d c) : sProp 𝕄) := by
  unfold startOf dirPre dirBuf dirTodo opened aside ownPre
  iintro ⟨#HR, ⟨Hk, Hp, Hp', Hcc, Hca, Hct, Hrc, H0, H1, Hv0, Hv1, Hv⟩, ⟨⟨Hs0, Hs1⟩, ⟨Hr0, Hr1⟩, ⟨Hg0, Hg1⟩, Hw⟩, ⟨HT, HW⟩⟩
  imod (open_dir (κ := κ) (ιs := ιs) d c) $$ [Hp Hp' H0 H1 Hr0 Hr1] with ⟨Hp, Hp', H0, H1, Ha⟩
  · iframe HR Hp Hp' H0 H1 Hr0 Hr1
  imodintro
  iframe Hk Hp Hp' Hcc Hca Hct Hrc H0 H1 Hv0 Hv1 Hv Hs0 Hs1 Hg0 Hg1 Hw HT HW Ha

omit [FloatOps F] in
theorem owd_done (c : Dev nD) : (owd true c 30 28 30 28 : sProp 𝕄) = ow c 0 := by
  unfold owd; rw [Od_done, Od_done, add_zero]

/-- The body from start to end. -/
theorem body_rule (c : Dev nD) :
    iprop(Recs I κ ιs ∗ barPre c ∗ bufs I c ∗ startOf true c ∗ startOf false c ∗ ow c (O₀ c))
      ⊢ WP c (ringProg c) (fun _ => iprop(bufs I c ∗ endOf I true c ∗ endOf I false c ∗ semVal (barCell c) 0 ∗ ow c 0)) := by
  unfold ringProg bufs
  iintro ⟨#HR, Hbar, ⟨Hx, Hw, Hsc, Hwb⟩, HA, HB, HO⟩
  imod (opening (κ := κ) (ιs := ιs) true c) $$ [HA] with ⟨HA, #Ha, HA'⟩
  · iframe HR HA
  imod (opening (κ := κ) (ιs := ιs) false c) $$ [HB] with ⟨HB, #Hb, HB'⟩
  · iframe HR HB
  iapply (op_barrier (κ := κ) (ιs := ιs) c) $$ [Hbar HO]
  · iframe HR Hbar Ha Hb HO
  iintro ⟨HO, #Ha', #Hb', Hbar⟩
  iapply (op_widen c) $$ [Hw Hwb]
  · iframe Hw Hwb
  iintro ⟨Hw, Hwb⟩
  unfold opened
  icases HA with ⟨HAg, HAr, HAr', HAs, HAs'⟩
  icases HB with ⟨HBg, HBr, HBr', HBs, HBs'⟩
  iapply (op_first true c) $$ [Hx Hwb HAs]
  · unfold xw; iframe Hx Hwb HAs
  iintro ⟨Hx, HAs⟩
  iapply (op_first false c) $$ [Hx HBs]
  · iframe Hx HBs
  iintro ⟨Hx, HBs⟩
  iapply (op_scales c) $$ Hsc; iintro Hsc
  ihave HA := (enter (I := I) true c) $$ [HAg HAr HAr' HAs HAs']
  · iframe HAg Ha' HAr HAr' Ha HAs HAs'
  ihave HB := (enter (I := I) false c) $$ [HBg HBr HBr' HBs HBs']
  · iframe HBg Hb' HBr HBr' Hb HBs HBs'
  iapply (iter_rule (P := S1 I c) (R := Recs I κ ιs) 14 0 (fun t _ ht k => step1 c (by omega))) $$ [Hx HA HB HO]
  · unfold S1; iframe HR Hx HA HB HO
  iintro HS
  unfold aside
  icases HA' with ⟨HAo, HAg, HAv, HAt⟩
  icases HB' with ⟨HBo, HBg, HBv, HBt⟩
  iapply (stepF (κ := κ) (ιs := ιs) c) $$ [HS HAo HBo]
  · iframe HR HS HAo HBo
  iintro ⟨HS, HAw, HBw⟩
  unfold S1
  icases HS with ⟨Hx, HA, HB, HO⟩
  ihave HA := (middle (I := I) true c) $$ [HA HAg HAv HAt]
  · iframe HA HAg HAv HAt
  ihave HB := (middle (I := I) false c) $$ [HB HBg HBv HBt]
  · iframe HB HBg HBv HBt
  iapply (iter_rule (P := S2' I c) (R := Recs I κ ιs) 15 0 (fun t _ ht k => step2 c (by omega))) $$ [HA HB HO]
  · unfold S2'
    isplitr; · iexact HR
    isplitl [HA]; · iexact HA
    isplitl [HB]; · iexact HB
    iexact HO
  iintro HS
  ihave HS := (Entails.of_eq (congrArg (S2' I c) (Nat.zero_add 15))) $$ HS
  unfold S2'
  icases HS with ⟨HA, HB, HO⟩
  ihave HO := (Entails.of_eq (show owd true c (15 + 15) (14 + held 15) (15 + 15) (14 + held 15) = ow c 0 from owd_done c)) $$ HO
  ihave HA := (leave (I := I) true c) $$ HA
  ihave HB := (leave (I := I) false c) $$ HB
  icases HA with ⟨HAo, HAg, HAs⟩
  icases HB with ⟨HBo, HBg, HBs⟩
  iapply (drain_rule (κ := κ) (ιs := ιs) c) $$ [HAo HBo HAw HBw HO]
  · iframe HR HAo HBo HAw HBw HO
  iintro ⟨HAo, HBo, HAw, HBw, HO⟩
  unfold xw
  icases Hx with ⟨Hx, Hwb⟩
  imod (end_dir (κ := κ) (ιs := ιs) true c) $$ [HAg HAs HAo HAw] with HA
  · iframe HR HAg HAs HAo HAw
  imod (end_dir (κ := κ) (ιs := ιs) false c) $$ [HBg HBs HBo HBw] with HB
  · iframe HR HBg HBs HBo HBw
  ihave #Hci := (rec_cell I κ ιs (mem_bar c)) $$ HR
  imod (Rounds.cell_close ER (Rd I) (Set.mem_univ (κ (barCell c))) (fun h => h) (R := 1)
    (fun r h => duties_one I (barCell c) r h (Or.inl rfl))) $$ [Hbar] with Hz
  · isplitr; · iexact Hci
    iexact Hbar
  rw [wp_ret]; imodintro
  isplitl [Hx Hw Hsc Hwb]
  · isplitl [Hx]; · iexact Hx
    isplitl [Hw]; · iexact Hw
    isplitl [Hsc]; · iexact Hsc
    unfold wbAny wbPts
    iexists _; iexact Hwb
  isplitl [HA]; · iexact HA
  isplitl [HB]; · iexact HB
  isplitl [Hz]; · iexact Hz
  iexact HO

end Cert.KernelIdeal.RS

end
-- ==== Proof.KernelIdeal.Shares.lean ====
/-
# The buffers in pieces

The launch hands over each buffer whole. Here the result is cut in the 32 blocks the copies out write, one half of the
columns for each direction, and each buffer of two slots in its slots; and both are put together again, the result with
what every block holds.
-/
module

public import proofs.«01_k».proof.Proof.KernelIdeal.Body
public import proofs.«01_k».proof.Proof.Gen.KernelIdeal.Launch
public import Idealize.ShloMosaic.Lib.Ring
public import Idealize.ShloMosaic.Lib.ViewIndex
public import Idealize.ShloMosaic.Lib.Pipeline.ValueKit.Geometry

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-! ## The blocks of the result -/

/-- A device's place on the ring. -/
def pos (c : Dev nD) : ℕ := k0_off1 c 0 / 256
/-- The row block that the device's `r`-th block is: what lands at step `15 + r`, and for `r = 15` its own. -/
def rowOf (c : Dev nD) (d : Bool) (r : ℕ) : ℕ := if d then (pos c + 16 - r) % 16 else (pos c + r) % 16

theorem pos_lt (c : Dev nD) : pos c < 16 := by revert c; decide

/-- Where the device's `r`-th block goes. -/
def pOff (c : Dev nD) (d : Bool) (r : ℕ) : Fin 2 → ℕ := if r < 15 then oOff c d r else wOff c d
theorem pOff_inb (c : Dev nD) (d : Bool) (r : ℕ) : ∀ a, pOff c d r a + S256x4096.size a ≤ S4096x8192.size a := by
  unfold pOff; split
  · exact oOff_inb c d r
  · exact wOff_inb c d
theorem pOff_of_lt (c : Dev nD) (d : Bool) {r : ℕ} (h : r < 15) : pOff c d r = oOff c d r := if_pos h
theorem pOff_own (c : Dev nD) (d : Bool) : pOff c d 15 = wOff c d := rfl

set_option maxRecDepth 20000 in
theorem oOff_rows (c : Dev nD) (d : Bool) (r : Fin 15) : oOff c d r 0 = 256 * rowOf c d r := by revert c d r; decide
set_option maxRecDepth 20000 in
theorem oOff_cols (c : Dev nD) (d : Bool) (r : Fin 15) : oOff c d r 1 = if d then 0 else 4096 := by revert c d r; decide
theorem wOff_rows (c : Dev nD) (d : Bool) : wOff c d 0 = 256 * rowOf c d 15 := by revert c d; decide
theorem wOff_cols (c : Dev nD) (d : Bool) : wOff c d 1 = if d then 0 else 4096 := by revert c d; decide

theorem pOff_rows (c : Dev nD) (d : Bool) {r : ℕ} (h : r < 16) : pOff c d r 0 = 256 * rowOf c d r := by
  by_cases h' : r < 15
  · rw [pOff_of_lt c d h']; exact oOff_rows c d ⟨r, h'⟩
  · obtain rfl : r = 15 := by omega
    exact wOff_rows c d
theorem pOff_cols (c : Dev nD) (d : Bool) {r : ℕ} (h : r < 16) : pOff c d r 1 = if d then 0 else 4096 := by
  by_cases h' : r < 15
  · rw [pOff_of_lt c d h']; exact oOff_cols c d ⟨r, h'⟩
  · obtain rfl : r = 15 := by omega
    exact wOff_cols c d

theorem rowOf_inj (c : Dev nD) (d : Bool) {r r' : ℕ} (h : r < 16) (h' : r' < 16) (e : rowOf c d r = rowOf c d r') : r = r' := by
  have := pos_lt c
  unfold rowOf at e; cases d
  · simp only [Bool.false_eq_true, if_false] at e; omega
  · simp only [if_true] at e; omega
theorem rowOf_onto (c : Dev nD) (d : Bool) {q : ℕ} (h : q < 16) : ∃ r < 16, rowOf c d r = q := by
  have := pos_lt c
  unfold rowOf; cases d
  · exact ⟨(q + 16 - pos c) % 16, Nat.mod_lt _ (by decide), by simp only [Bool.false_eq_true, if_false]; omega⟩
  · exact ⟨(pos c + 16 - q) % 16, Nat.mod_lt _ (by decide), by simp only [if_true]; omega⟩

/-- The elements of a block. -/
def cut (c : Dev nD) (d : Bool) (r : ℕ) : Finset (Idx ((c : Thread nD τ).loc main_v1)) := (oV (pOff c d r) (pOff_inb c d r)).view.set
theorem mem_cut (c : Dev nD) (d : Bool) {r : ℕ} (h : r < 16) (i : S4096x8192.Idx) :
    i ∈ cut c d r ↔ (i 0 : ℕ) / 256 = rowOf c d r ∧ (i 1 : ℕ) / 4096 = (if d then 0 else 1) := by
  have h0 := pOff_rows c d h
  have h1 := pOff_cols c d h
  unfold cut
  refine (ValueKit.mem_set_slice_whole_iff main_v1 (oR (pOff c d r) (pOff_inb c d r)) i Rect.mem_set_unit).trans ?_
  refine (Fin.forall_fin_two (p := fun a : Fin 2 => pOff c d r a ≤ (i a : ℕ) ∧ (i a : ℕ) < pOff c d r a + S256x4096.size a)).trans ?_
  rw [h0, h1]
  show (256 * rowOf c d r ≤ (i 0 : ℕ) ∧ (i 0 : ℕ) < 256 * rowOf c d r + 256)
    ∧ ((if d then 0 else 4096) ≤ (i 1 : ℕ) ∧ (i 1 : ℕ) < (if d then 0 else 4096) + 4096) ↔ _
  have hi : (i 1 : ℕ) < 8192 := (i 1).isLt
  cases d
  · simp only [Bool.false_eq_true, if_false]; omega
  · simp only [if_true]; omega
theorem cut_disjoint (c : Dev nD) (d : Bool) : ∀ r ∈ Finset.range 16, ∀ r' ∈ Finset.range 16, r ≠ r' → Disjoint (cut c d r) (cut c d r') :=
  fun r hr r' hr' hne => Finset.disjoint_left.mpr fun i hi hi' => hne (by
    have hr := Finset.mem_range.mp hr
    have hr' := Finset.mem_range.mp hr'
    exact rowOf_inj c d hr hr' (((mem_cut c d hr i).mp hi).1.symm.trans ((mem_cut c d hr' i).mp hi').1))

/-- The half of the result that a direction writes. -/
def half (c : Dev nD) (d : Bool) : Finset (Idx ((c : Thread nD τ).loc main_v1)) := (Finset.range 16).biUnion (cut c d)
theorem mem_half (c : Dev nD) (d : Bool) (i : S4096x8192.Idx) : i ∈ half c d ↔ (i 1 : ℕ) / 4096 = (if d then 0 else 1) := by
  unfold half
  constructor
  · intro h
    obtain ⟨r, hr, hi⟩ := Finset.mem_biUnion.mp h
    exact ((mem_cut c d (Finset.mem_range.mp hr) i).mp hi).2
  · intro h
    have h0 : (i 0 : ℕ) < 4096 := (i 0).isLt
    obtain ⟨r, hr, e⟩ := rowOf_onto c d (q := (i 0 : ℕ) / 256) (by omega)
    exact Finset.mem_biUnion.mpr ⟨r, Finset.mem_range.mpr hr, (mem_cut c d hr i).mpr ⟨e.symm, h⟩⟩
theorem half_disjoint (c : Dev nD) : ∀ d d', d ≠ d' → Disjoint (half c d) (half c d') :=
  fun d d' hne => Finset.disjoint_left.mpr fun i hi hi' => hne (by
    have h := ((mem_half c d i).mp hi).symm.trans ((mem_half c d' i).mp hi')
    cases d <;> cases d' <;> first | rfl | exact absurd h (by decide))
theorem half_cover (c : Dev nD) : Finset.univ.biUnion (half c) = Finset.univ := by
  ext i
  refine ⟨fun _ => Finset.mem_univ _, fun _ => Finset.mem_biUnion.mpr ⟨decide ((i 1 : ℕ) / 4096 = 0), Finset.mem_univ _, (mem_half c _ i).mpr ?_⟩⟩
  have hi : (i 1 : ℕ) < 8192 := (i 1).isLt
  by_cases h : (i 1 : ℕ) / 4096 = 0
  · rw [h]; rfl
  · rw [decide_eq_false h]; simp only [Bool.false_eq_true, if_false]; omega

/-- What the device's `r`-th block holds at the end. -/
def outOf (I : Ins F) (d : Bool) (c : Dev nD) (r : ℕ) : Vec F S256x4096 .f32 := if r < 15 then got I d c r else fin I d c
/-- The result, block by block. -/
def IsOut (I : Ins F) (c : Dev nD) (f : Buf (Elt F) ((c : Thread nD τ).loc main_v1)) : Prop :=
  ∀ d, ∀ r < 16, (oV (pOff c d r) (pOff_inb c d r)).view.read (Elt F) f = outOf I d c r

theorem range16 (Φ : ℕ → sProp 𝕄) : bigSep (Finset.range 16) Φ = iprop(Φ 15 ∗ bigSep (Finset.range 15) Φ) := by
  rw [show Finset.range 16 = insert 15 (Finset.range 15) from Finset.range_add_one]; exact bigSep_insert Finset.notMem_range_self
theorem both (Φ : Bool → sProp 𝕄) : bigSep Finset.univ Φ = iprop(Φ true ∗ Φ false) :=
  bigSep_univ_eq_bigSepL [true, false] (by decide) (by decide) Φ

theorem oAny_of_eq (c : Dev nD) {o o' : Fin 2 → ℕ} (h : o = o') (ho ho') : (oAny c o ho : sProp 𝕄) = oAny c o' ho' := by subst h; rfl
theorem oAt_of_eq (c : Dev nD) {o o' : Fin 2 → ℕ} (h : o = o') (ho ho') (v : Vec F S256x4096 .f32) : (oAt c o ho v : sProp 𝕄) = oAt c o' ho' v := by subst h; rfl

theorem swap (P Q : sProp 𝕄) : iprop(P ∗ Q) ⊢ iprop(Q ∗ P) := by
  iintro ⟨HP, HQ⟩
  isplitl [HQ]; · iexact HQ
  iexact HP

/-- A direction's half, handed over block by block. -/
theorem half_split (d : Bool) (c : Dev nD) (f : Buf (Elt F) ((c : Thread nD τ).loc main_v1)) :
    (((c : Thread nD τ).loc main_v1) ↦[half c d]{fullShare} f) ⊢ (dirTodo d c : sProp 𝕄) := by
  have h (r : ℕ) : (((c : Thread nD τ).loc main_v1) ↦[cut c d r]{fullShare} f) ⊢ (oAny c (pOff c d r) (pOff_inb c d r) : sProp 𝕄) := by
    unfold oAny
    iintro H; iexists f; iexact H
  have hr : bigSep (Finset.range 15) (fun r => (((c : Thread nD τ).loc main_v1) ↦[cut c d r]{fullShare} f)) ⊢ (oTodo d c 0 : sProp 𝕄) := by
    unfold oTodo
    rw [← Finset.range_eq_Ico]
    exact bigSep_mono fun r hr => (h r).trans (Entails.of_eq (oAny_of_eq c (pOff_of_lt c d (Finset.mem_range.mp hr)) _ _))
  unfold half dirTodo
  rw [pointsTo_biUnion _ _ (cut_disjoint c d), range16]
  exact (swap _ _).trans (BI.sep_mono hr (h 15))

/-- A direction's half, put together again. -/
theorem half_join (I : Ins F) (d : Bool) (c : Dev nD) :
    dirDone I d c ⊢ (iprop(∃ f, ⌜∀ r < 16, (oV (pOff c d r) (pOff_inb c d r)).view.read (Elt F) f = outOf I d c r⌝
      ∗ (((c : Thread nD τ).loc main_v1) ↦[half c d]{fullShare} f)) : sProp 𝕄) := by
  have hA : dirDone I d c ⊢ (bigSep (Finset.range 16) (fun r => oAt c (pOff c d r) (pOff_inb c d r) (outOf I d c r)) : sProp 𝕄) := by
    unfold dirDone oDone
    rw [range16]
    have h15 (r : ℕ) (hr : r ∈ Finset.range 15) : (oAt c (oOff c d r) (oOff_inb c d r) (got I d c r) : sProp 𝕄) ⊢ oAt c (pOff c d r) (pOff_inb c d r) (outOf I d c r) := by
      have hr := Finset.mem_range.mp hr
      rw [show outOf I d c r = got I d c r from if_pos hr]
      exact Entails.of_eq (oAt_of_eq c (pOff_of_lt c d hr).symm _ _ _)
    have hown : (oAt c (wOff c d) (wOff_inb c d) (fin I d c) : sProp 𝕄) ⊢ oAt c (pOff c d 15) (pOff_inb c d 15) (outOf I d c 15) := Entails.of_eq rfl
    exact (swap _ _).trans (BI.sep_mono hown (bigSep_mono h15))
  have hB : (bigSep (Finset.range 16) (fun r => oAt c (pOff c d r) (pOff_inb c d r) (outOf I d c r)) : sProp 𝕄)
      ⊢ iprop(∃ fs : ℕ → Buf (Elt F) ((c : Thread nD τ).loc main_v1), bigSep (Finset.range 16) fun r =>
          iprop((((c : Thread nD τ).loc main_v1) ↦[cut c d r]{fullShare} fs r) ∗ ⌜(oV (pOff c d r) (pOff_inb c d r)).view.read (Elt F) (fs r) = outOf I d c r⌝)) := by
    unfold oAt
    exact bigSep_exists_pi (Finset.range 16) (fun r (f : Buf (Elt F) ((c : Thread nD τ).loc main_v1)) =>
      iprop((((c : Thread nD τ).loc main_v1) ↦[cut c d r]{fullShare} f) ∗ ⌜(oV (pOff c d r) (pOff_inb c d r)).view.read (Elt F) f = outOf I d c r⌝))
  have hC (fs : ℕ → Buf (Elt F) ((c : Thread nD τ).loc main_v1)) :
      (bigSep (Finset.range 16) fun r => iprop((((c : Thread nD τ).loc main_v1) ↦[cut c d r]{fullShare} fs r) ∗ ⌜(oV (pOff c d r) (pOff_inb c d r)).view.read (Elt F) (fs r) = outOf I d c r⌝))
        ⊢ (bigSep (Finset.range 16) fun r => iprop(⌜(oV (pOff c d r) (pOff_inb c d r)).view.read (Elt F) (fs r) = outOf I d c r⌝ ∗ (((c : Thread nD τ).loc main_v1) ↦[cut c d r]{fullShare} fs r)) : sProp 𝕄) :=
    bigSep_mono fun r _ => swap _ _
  refine hA.trans (hB.trans ?_)
  iintro ⟨%fs, H⟩
  ihave H := (hC fs) $$ H
  ihave H := (bigSep_pure_sep (Finset.range 16) (fun r => (oV (pOff c d r) (pOff_inb c d r)).view.read (Elt F) (fs r) = outOf I d c r) _) $$ H
  icases H with ⟨%hp, H⟩
  ihave H := (pointsTo_biUnion_join (Finset.range 16) (cut c d) fs (fs 0) (cut_disjoint c d)) $$ H
  icases H with ⟨%g, %hg, H⟩
  iexists g
  isplitr
  · ipureintro
    intro r hr
    have hr := Finset.mem_range.mpr hr
    exact (View.read_congr (Val := Elt F) (v := (oV (pOff c d r) (pOff_inb c d r)).view) (fun i hi => hg r hr i hi)).trans (hp r hr)
  iexact H

/-- The result, handed over in its blocks, -/
theorem out_split (c : Dev nD) (f : Buf (Elt F) ((c : Thread nD τ).loc main_v1)) :
    (((c : Thread nD τ).loc main_v1) ↦{fullShare} f) ⊢ (iprop(dirTodo true c ∗ dirTodo false c) : sProp 𝕄) := by
  rw [Ring.pointsTo_blocks (half c) (half_disjoint c) (half_cover c), both]
  exact BI.sep_mono (half_split true c f) (half_split false c f)
/-- and put together again. -/
theorem out_join (I : Ins F) (c : Dev nD) :
    iprop(dirDone I true c ∗ dirDone I false c) ⊢ (iprop(∃ f, ⌜IsOut I c f⌝ ∗ (((c : Thread nD τ).loc main_v1) ↦{fullShare} f)) : sProp 𝕄) := by
  iintro ⟨Ha, Hb⟩
  ihave Ha := (half_join I true c) $$ Ha
  ihave Hb := (half_join I false c) $$ Hb
  icases Ha with ⟨%f, %hf, Ha⟩
  icases Hb with ⟨%g, %hg, Hb⟩
  ihave H := ((Entails.of_eq (both (fun d : Bool => (((c : Thread nD τ).loc main_v1) ↦[half c d]{fullShare} (if d then f else g) : sProp 𝕄))).symm).trans
    (pointsTo_biUnion_join Finset.univ (half c) (fun d => if d then f else g) f (fun d _ d' _ h => half_disjoint c d d' h))) $$ [Ha Hb]
  · isplitl [Ha]; · iexact Ha
    iexact Hb
  icases H with ⟨%e, %he, H⟩
  iexists e
  isplitr
  · ipureintro
    intro d r hr
    have hs : ∀ i ∈ (oV (pOff c d r) (pOff_inb c d r)).view.set, e i = (if d then f else g) i := fun i hi =>
      he d (Finset.mem_univ _) i (Finset.mem_biUnion.mpr ⟨r, Finset.mem_range.mpr hr, hi⟩)
    refine (View.read_congr (Val := Elt F) (v := (oV (pOff c d r) (pOff_inb c d r)).view) hs).trans ?_
    cases d
    · exact hg r hr
    · exact hf r hr
  iapply (Entails.of_eq (congrArg (fun S => (((c : Thread nD τ).loc main_v1) ↦[S]{fullShare} e : sProp 𝕄)) (half_cover c))); iexact H

/-! ## Slots -/

section Slots
variable {e : EltTy} (m : Memref sig .tc .vmem S2x256x4096 e) (hm : m.IsWhole) (c : Dev nD)

omit [FloatOps F] in
theorem slot_disjoint : ∀ s s' : Fin 2, s ≠ s' → Disjoint (m.access (slotR s)).set (m.access (slotR s')).set := fun s s' h =>
  View.disjoint_slice (by
    refine Rect.unit_disjoint (0 : Fin 3) ?_
    revert s s'; decide)
omit [FloatOps F] in
include hm in
theorem slot_cover : Finset.biUnion (β := m.view.ty.Idx) (Finset.univ : Finset (Fin 2)) (fun s => (m.access (slotR s)).set) = Finset.univ := by
  rw [← hm.set_eq_univ]
  ext i
  refine ⟨fun h => ?_, fun h => ?_⟩
  · obtain ⟨s, -, hi⟩ := Finset.mem_biUnion.mp h
    exact View.set_slice_subset _ _ hi
  · obtain ⟨x, -, rfl⟩ := Finset.mem_map.mp h
    refine Finset.mem_biUnion.mpr ⟨(x 0 : Fin 2), Finset.mem_univ _, ?_⟩
    rw [View.set_slice]
    refine Finset.mem_map_of_mem _ (Rect.mem_set_unit.mpr fun a => ?_)
    match a with
    | 0 => exact ⟨le_refl _, Nat.lt_succ_self _⟩
    | 1 => exact ⟨Nat.zero_le _, (by have := (x 1).isLt; exact (Nat.zero_add 256).symm ▸ this)⟩
    | 2 => exact ⟨Nat.zero_le _, (by have := (x 2).isLt; exact (Nat.zero_add 4096).symm ▸ this)⟩

omit [FloatOps F] in
theorem two (Φ : Fin 2 → sProp 𝕄) : bigSep Finset.univ Φ = iprop(Φ 0 ∗ Φ 1) := bigSep_univ_eq_bigSepL [0, 1] (by decide) (by decide) Φ

omit [FloatOps F] in
theorem slot_of (s : Fin 2) (f : Buf (Elt F) (m.view.loc (c : Thread nD τ))) :
    (m.view.loc (c : Thread nD τ) ↦[(m.access (slotR s)).set]{fullShare} f) ⊢ (slotAny m s c : sProp 𝕄) := by
  unfold slotAny
  iintro H; iexists f; iexact H
omit [FloatOps F] in
include hm in
theorem slots_of (f : Buf (Elt F) (m.view.loc (c : Thread nD τ))) :
    (m.view.loc (c : Thread nD τ) ↦{fullShare} f) ⊢ (iprop(slotAny m 0 c ∗ slotAny m 1 c) : sProp 𝕄) := by
  rw [Ring.pointsTo_blocks (ℓ := m.view.loc (c : Thread nD τ)) (fun s : Fin 2 => (m.access (slotR s)).set) (slot_disjoint m) (slot_cover m hm) f, two]
  exact BI.sep_mono (slot_of m c 0 f) (slot_of m c 1 f)
omit [FloatOps F] in
include hm in
theorem slots_split : (iprop(∃ f, (m.view.loc (c : Thread nD τ) ↦{fullShare} f)) : sProp 𝕄) ⊢ iprop(slotAny m 0 c ∗ slotAny m 1 c) := by
  iintro ⟨%f, H⟩
  iapply (slots_of m hm c f); iexact H
include hm in
theorem slots_join : iprop(slotAny m 0 c ∗ slotAny m 1 c) ⊢ (iprop(∃ f, (m.view.loc (c : Thread nD τ) ↦{fullShare} f)) : sProp 𝕄) := by
  refine (Entails.of_eq (two (F := F) (fun s => slotAny m s c)).symm).trans ?_
  have f₀ : Buf (Elt F) (m.view.loc (c : Thread nD τ)) := fun _ => Classical.arbitrary _
  unfold slotAny
  exact Ring.pointsTo_blocks_join_exists (ℓ := m.view.loc (c : Thread nD τ)) (fun s : Fin 2 => (m.access (slotR s)).set) (slot_disjoint m) (slot_cover m hm) f₀
end Slots

omit [FloatOps F] in
theorem own_split (d : Bool) (c : Dev nD) : (iprop(∃ f, ((ownM d).view.loc (c : Thread nD τ) ↦{fullShare} f)) : sProp 𝕄) ⊢ ownAny d c := by
  unfold ownAny; rw [(ownW d).set_eq_univ]
omit [FloatOps F] in
theorem own_join (d : Bool) (c : Dev nD) : (ownAny d c : sProp 𝕄) ⊢ iprop(∃ f, ((ownM d).view.loc (c : Thread nD τ) ↦{fullShare} f)) := by
  unfold ownAny; rw [(ownW d).set_eq_univ]

/-- A direction's scratch buffers, whole. -/
def dirScr (d : Bool) (c : Dev nD) : sProp 𝕄 :=
  iprop((∃ f, ((sndM d).view.loc (c : Thread nD τ) ↦{fullShare} f)) ∗ (∃ f, ((rcvM d).view.loc (c : Thread nD τ) ↦{fullShare} f))
    ∗ (∃ f, ((stgM d).view.loc (c : Thread nD τ) ↦{fullShare} f)) ∗ (∃ f, ((ownM d).view.loc (c : Thread nD τ) ↦{fullShare} f)))
theorem dir_split (d : Bool) (c : Dev nD) : dirScr d c ⊢ (dirBuf d c : sProp 𝕄) :=
  BI.sep_mono (slots_split _ (sndW d) c) (BI.sep_mono (slots_split _ (rcvW d) c) (BI.sep_mono (slots_split _ (stgW d) c) (own_split d c)))
theorem dir_join (d : Bool) (c : Dev nD) : dirBuf d c ⊢ (dirScr d c : sProp 𝕄) :=
  BI.sep_mono (slots_join _ (sndW d) c) (BI.sep_mono (slots_join _ (rcvW d) c) (BI.sep_mono (slots_join _ (stgW d) c) (own_join d c)))

theorem scr_split (c : Dev nD) : (Pipeline.scopedRest cfg0.spec c : sProp 𝕄) ⊢ iprop(wbAny c ∗ dirBuf true c ∗ dirBuf false c) := by
  rw [Gen.scopedRest0_eq]
  unfold wbAny
  iintro ⟨H0, H1, H2, H3, H4, H5, H6, H7, H8⟩
  isplitl [H0]; · iexact H0
  isplitl [H1 H2 H3 H4]
  · iapply (dir_split true c); unfold dirScr
    isplitl [H1]; · iexact H1
    isplitl [H2]; · iexact H2
    isplitl [H3]; · iexact H3
    iexact H4
  iapply (dir_split false c); unfold dirScr
  isplitl [H5]; · iexact H5
  isplitl [H6]; · iexact H6
  isplitl [H7]; · iexact H7
  iexact H8
theorem scr_join (c : Dev nD) : iprop(wbAny c ∗ dirBuf true c ∗ dirBuf false c) ⊢ (Pipeline.scopedRest cfg0.spec c : sProp 𝕄) := by
  rw [Gen.scopedRest0_eq]
  iintro ⟨H0, Ha, Hb⟩
  ihave Ha := (dir_join true c) $$ Ha
  ihave Hb := (dir_join false c) $$ Hb
  unfold dirScr wbAny
  icases Ha with ⟨H1, H2, H3, H4⟩
  icases Hb with ⟨H5, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.RS

end
-- ==== Proof.KernelIdeal.Deal.lean ====
/-
# The launch's records, dealt to the devices

The launch makes every counter's invariant, every slot's invariant and all tokens at once. A token belongs to the
device that will use it, which is often a neighbour of the device whose counter it is for; here each token goes there.
-/
module

public import proofs.«01_k».proof.Proof.KernelIdeal.Shares

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-! ## The tokens -/

/-- The tokens: two signals of every entry barrier, and in each direction 28 credits, 30 sends and 30 arrivals. -/
abbrev Tok : Type := (Dev nD × Fin 2) ⊕ ((Dev nD × Bool × Fin 28) ⊕ ((Dev nD × Bool × Fin 30) ⊕ (Dev nD × Bool × Fin 30)))
/-- Counter, round and index of a token. -/
def tokOf : Tok → GSem nD τ sig × ℕ × ℕ
  | .inl (c, k) => (barCell c, 0, k.val)
  | .inr (.inl (c, d, k)) => (credCell d c, 0, k.val)
  | .inr (.inr (.inl (c, d, t))) => (sndCell d c (par t), t.val / 2, 0)
  | .inr (.inr (.inr (c, d, t))) => (rcvCell d c (par t), t.val / 2, 0)
/-- The token of a counter, a round and an index. -/
def tokBack (x : GSem nD τ sig × ℕ × ℕ) : Tok :=
  match use x.1.2 with
  | .cred d => .inr (.inl (x.1.1.1, d, Fin.ofNat 28 x.2.2))
  | .snd d s => .inr (.inr (.inl (x.1.1.1, d, Fin.ofNat 30 (2 * x.2.1 + s.val))))
  | .rcv d s => .inr (.inr (.inr (x.1.1.1, d, Fin.ofNat 30 (2 * x.2.1 + s.val))))
  | _ => .inl (x.1.1.1, Fin.ofNat 2 x.2.2)

theorem ofNat_par (t : Fin 30) : Fin.ofNat 30 (2 * (t.val / 2) + (par t.val).val) = t := by
  rw [par_val]; exact Fin.ext (Nat.mod_eq_of_lt t.isLt)

theorem tokOf_injective : Function.Injective tokOf := by
  refine Function.LeftInverse.injective (g := tokBack) ?_
  rintro (⟨c, k⟩ | ⟨c, d, k⟩ | ⟨c, d, t⟩ | ⟨c, d, t⟩)
  · show tokBack (barCell c, 0, k.val) = _
    unfold tokBack; rw [use_bar]
    exact congrArg (fun k => Sum.inl (c, k)) (Fin.ext (Nat.mod_eq_of_lt k.isLt))
  · show tokBack (credCell d c, 0, k.val) = _
    unfold tokBack; rw [use_cred]
    exact congrArg (fun k => Sum.inr (Sum.inl (c, d, k))) (Fin.ext (Nat.mod_eq_of_lt k.isLt))
  · show tokBack (sndCell d c (par t), t.val / 2, 0) = _
    unfold tokBack; rw [use_snd]
    exact congrArg (fun k => Sum.inr (Sum.inr (Sum.inl (c, d, k)))) (ofNat_par t)
  · show tokBack (rcvCell d c (par t), t.val / 2, 0) = _
    unfold tokBack; rw [use_rcv]
    exact congrArg (fun k => Sum.inr (Sum.inr (Sum.inr (c, d, k)))) (ofNat_par t)

/-- All tokens. -/
def ringToks : Finset (GSem nD τ sig × ℕ × ℕ) := Finset.univ.map ⟨tokOf, tokOf_injective⟩

/-! ## Families over the devices -/

omit [FloatOps F] in
theorem fin_range (n : ℕ) (Φ : ℕ → sProp 𝕄) : bigSep (Finset.univ : Finset (Fin n)) (fun i => Φ i.val) = bigSep (Finset.range n) Φ := by
  have e : Finset.range n = (Finset.univ : Finset (Fin n)).map Fin.valEmbedding := by
    ext x
    simp only [Finset.mem_range, Finset.mem_map, Finset.mem_univ, true_and, Fin.valEmbedding_apply]
    exact ⟨fun h => ⟨⟨x, h⟩, rfl⟩, fun ⟨i, hi⟩ => hi ▸ i.isLt⟩
  rw [e, bigSep_map]; rfl

omit [FloatOps F] in
/-- A family over devices, directions and steps, device by device. -/
theorem dirs_range (n : ℕ) (Φ : Dev nD → Bool → ℕ → sProp 𝕄) :
    bigSep (Finset.univ : Finset (Dev nD × Bool × Fin n)) (fun x => Φ x.1 x.2.1 x.2.2.val)
      = bigSep Finset.univ (fun c => iprop(bigSep (Finset.range n) (Φ c true) ∗ bigSep (Finset.range n) (Φ c false))) := by
  rw [bigSep_univ_prod]
  refine bigSep_congr fun c _ => ?_
  rw [bigSep_univ_prod, bigSep_univ_eq_bigSepL [true, false] (by decide) (by decide)]
  exact congrArg₂ (fun P Q => iprop(P ∗ Q)) (fin_range n (Φ c true)) (fin_range n (Φ c false))

omit [FloatOps F] in
/-- A family over the devices, each device taking its neighbour's member. -/
theorem deal (d : Bool) (Φ : Dev nD → sProp 𝕄) : bigSep Finset.univ Φ = bigSep Finset.univ (fun c => Φ (toD d c)) := bigSep_univ_equiv (ring d) Φ

/-! ## What the tokens are for, device by device -/

def barTok (c : Dev nD) (k : ℕ) : sProp 𝕄 := dutyTok ER (barCell c) 0 k
def credTok (d : Bool) (c : Dev nD) : sProp 𝕄 := bigSep (Finset.range 28) (fun k => dutyTok ER (credCell d c) 0 k)
def sndTok (d : Bool) (c : Dev nD) : sProp 𝕄 := bigSep (Finset.range 30) (fun t => dutyTok ER (sndCell d c (par t)) (t / 2) 0)
def rcvTok (d : Bool) (c : Dev nD) : sProp 𝕄 := bigSep (Finset.range 30) (fun t => dutyTok ER (rcvCell d c (par t)) (t / 2) 0)
def wrTok (d : Bool) (c : Dev nD) : sProp 𝕄 := bigSep (Finset.range 30) (fun t => writeTok ES (c, d, par t) (t / 2 + 1))

omit [FloatOps F] in
theorem ringToks_eq : (bigSep ringToks (fun x => dutyTok ER x.1 x.2.1 x.2.2) : sProp 𝕄)
    = iprop(bigSep Finset.univ (fun c => iprop(barTok c 0 ∗ barTok c 1)) ∗ bigSep Finset.univ (fun c => iprop(credTok true c ∗ credTok false c))
        ∗ bigSep Finset.univ (fun c => iprop(sndTok true c ∗ sndTok false c)) ∗ bigSep Finset.univ (fun c => iprop(rcvTok true c ∗ rcvTok false c))) := by
  have h1 : bigSep (Finset.univ : Finset (Dev nD × Fin 2)) (fun x => (dutyTok ER (barCell x.1) 0 x.2.val : sProp 𝕄))
      = bigSep Finset.univ (fun c => iprop(barTok c 0 ∗ barTok c 1)) := by
    rw [bigSep_univ_prod]; exact bigSep_congr fun c _ => two (F := F) (fun k => dutyTok ER (barCell c) 0 k.val)
  have h2 := dirs_range (F := F) 28 (fun c d k => dutyTok ER (credCell d c) 0 k)
  have h3 := dirs_range (F := F) 30 (fun c d t => dutyTok ER (sndCell d c (par t)) (t / 2) 0)
  have h4 := dirs_range (F := F) 30 (fun c d t => dutyTok ER (rcvCell d c (par t)) (t / 2) 0)
  unfold ringToks
  rw [bigSep_map, bigSep_univ_sum, bigSep_univ_sum, bigSep_univ_sum]
  exact congrArg₂ (fun P Q : sProp 𝕄 => iprop(P ∗ Q)) h1 (congrArg₂ (fun P Q : sProp 𝕄 => iprop(P ∗ Q)) h2 (congrArg₂ (fun P Q : sProp 𝕄 => iprop(P ∗ Q)) h3 h4))

/-- A receive slot is written fifteen times, thirty times for the two of a direction. -/
def wrOf (x : Dev nD × Bool × Fin 30) : Key × ℕ := ((x.1, x.2.1, par x.2.2), x.2.2.val / 2)
theorem wrOf_injective : Function.Injective wrOf := by
  rintro ⟨c, d, t⟩ ⟨c', d', t'⟩ h
  unfold wrOf at h
  simp only [Prod.mk.injEq] at h
  obtain ⟨⟨rfl, rfl, hp⟩, ht⟩ := h
  have : t = t' := by rw [← ofNat_par t, ← ofNat_par t', hp, ht]
  rw [this]
theorem wr_all : (Finset.univ : Finset Key) ×ˢ Finset.range 15 = Finset.univ.map ⟨wrOf, wrOf_injective⟩ := by
  ext ⟨⟨c, d, s⟩, r⟩
  simp only [Finset.mem_product, Finset.mem_univ, true_and, Finset.mem_range, Finset.mem_map, Function.Embedding.coeFn_mk]
  have hs := s.isLt
  constructor
  · intro h
    refine ⟨(c, d, ⟨2 * r + s.val, by omega⟩), ?_⟩
    unfold wrOf par
    simp only [Prod.mk.injEq, true_and]
    exact ⟨Fin.ext (by show (2 * r + s.val) % 2 = s.val; omega), by omega⟩
  · rintro ⟨⟨c', d', t⟩, h⟩
    unfold wrOf at h
    simp only [Prod.mk.injEq] at h
    have := t.isLt; omega
omit [FloatOps F] in
theorem wrToks_eq : (bigSep ((Finset.univ : Finset Key) ×ˢ Finset.range 15) (fun x => writeTok ES x.1 (x.2 + 1)) : sProp 𝕄)
    = bigSep Finset.univ (fun c => iprop(wrTok true c ∗ wrTok false c)) := by
  rw [wr_all, bigSep_map]
  exact dirs_range (F := F) 30 (fun c d t => writeTok ES (c, d, par t) (t / 2 + 1))

/-- A direction's tokens at the device that uses them, -/
def kitToks (d : Bool) (c : Dev nD) : sProp 𝕄 := iprop(credTok d (toD (!d) c) ∗ sndTok d c ∗ rcvTok d (toD d c) ∗ wrTok d (toD d c))
/-- and all of a device's. -/
def devToks (c : Dev nD) : sProp 𝕄 := iprop(barTok (toD true c) 1 ∗ barTok (toD false c) 0 ∗ kitToks true c ∗ kitToks false c)

omit [FloatOps F] in
theorem toks_deal :
    iprop(bigSep ringToks (fun x => dutyTok ER x.1 x.2.1 x.2.2) ∗ bigSep ((Finset.univ : Finset Key) ×ˢ Finset.range 15) (fun x => writeTok ES x.1 (x.2 + 1)))
      ⊢ (bigSep Finset.univ (fun c => devToks c) : sProp 𝕄) := by
  rw [ringToks_eq, wrToks_eq]
  unfold devToks kitToks
  simp only [bigSep_sep']
  iintro ⟨⟨⟨Hb0, Hb1⟩, ⟨Hc1, Hc0⟩, ⟨Hs1, Hs0⟩, ⟨Hr1, Hr0⟩⟩, ⟨Hw1, Hw0⟩⟩
  ihave Hb0 := (Entails.of_eq (deal false (fun c => barTok (F := F) c 0))) $$ Hb0
  ihave Hb1 := (Entails.of_eq (deal true (fun c => barTok (F := F) c 1))) $$ Hb1
  ihave Hc1 := (Entails.of_eq (deal false (fun c => credTok (F := F) true c))) $$ Hc1
  ihave Hc0 := (Entails.of_eq (deal true (fun c => credTok (F := F) false c))) $$ Hc0
  ihave Hr1 := (Entails.of_eq (deal true (fun c => rcvTok (F := F) true c))) $$ Hr1
  ihave Hr0 := (Entails.of_eq (deal false (fun c => rcvTok (F := F) false c))) $$ Hr0
  ihave Hw1 := (Entails.of_eq (deal true (fun c => wrTok (F := F) true c))) $$ Hw1
  ihave Hw0 := (Entails.of_eq (deal false (fun c => wrTok (F := F) false c))) $$ Hw0
  isplitl [Hb1]; · iexact Hb1
  isplitl [Hb0]; · iexact Hb0
  isplitl [Hc1 Hs1 Hr1 Hw1]
  · isplitl [Hc1]; · iexact Hc1
    isplitl [Hs1]; · iexact Hs1
    isplitl [Hr1]; · iexact Hr1
    iexact Hw1
  isplitl [Hc0]; · iexact Hc0
  isplitl [Hs0]; · iexact Hs0
  isplitl [Hr0]; · iexact Hr0
  iexact Hw0

/-! ## The counters, device by device -/

/-- A family over the counters of one direction, and of one device. -/
def dirCells (Φ : GSem nD τ sig → sProp 𝕄) (d : Bool) (c : Dev nD) : sProp 𝕄 :=
  iprop(Φ (credCell d c) ∗ Φ (sndCell d c 0) ∗ Φ (sndCell d c 1) ∗ Φ (rcvCell d c 0) ∗ Φ (rcvCell d c 1))
def devCells (Φ : GSem nD τ sig → sProp 𝕄) (c : Dev nD) : sProp 𝕄 := iprop(Φ (barCell c) ∗ dirCells Φ true c ∗ dirCells Φ false c)

omit [FloatOps F] in
theorem eleven (Ψ : Fin 11 → sProp 𝕄) : bigSep Finset.univ Ψ
    = iprop(Ψ 0 ∗ Ψ 1 ∗ Ψ 2 ∗ Ψ 3 ∗ Ψ 4 ∗ Ψ 5 ∗ Ψ 6 ∗ Ψ 7 ∗ Ψ 8 ∗ Ψ 9 ∗ Ψ 10) :=
  bigSep_univ_eq_bigSepL [0, 1, 2, 3, 4, 5, 6, 7, 8, 9, 10] (by decide) (by decide) Ψ
omit [FloatOps F] in
theorem ringCells_eq (Φ : GSem nD τ sig → sProp 𝕄) :
    bigSep ringCells Φ = bigSep Finset.univ (fun c : Dev nD => bigSep Finset.univ (fun k : Fin 11 => Φ (ringCell (c, k)))) := by
  unfold ringCells; rw [bigSep_map, bigSep_univ_prod]; rfl
omit [FloatOps F] in
theorem cells_of (Φ : GSem nD τ sig → sProp 𝕄) (c : Dev nD) :
    bigSep Finset.univ (fun k : Fin 11 => Φ (ringCell (c, k))) ⊢ devCells Φ c := by
  rw [eleven]; unfold devCells dirCells
  iintro ⟨H0, H1, H2, H3, H4, H5, H6, H7, H8, H9, H10⟩
  isplitl [H0]; · iexact H0
  isplitl [H1 H3 H4 H7 H8]
  · isplitl [H1]; · iexact H1
    isplitl [H3]; · iexact H3
    isplitl [H4]; · iexact H4
    isplitl [H7]; · iexact H7
    iexact H8
  isplitl [H2]; · iexact H2
  isplitl [H5]; · iexact H5
  isplitl [H6]; · iexact H6
  isplitl [H9]; · iexact H9
  iexact H10
omit [FloatOps F] in
theorem of_cells (Φ : GSem nD τ sig → sProp 𝕄) (c : Dev nD) :
    devCells Φ c ⊢ bigSep Finset.univ (fun k : Fin 11 => Φ (ringCell (c, k))) := by
  rw [eleven]; unfold devCells dirCells
  iintro ⟨H0, ⟨H1, H3, H4, H7, H8⟩, ⟨H2, H5, H6, H9, H10⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- How far each slot has been read, device by device. -/
def dirReaders (d : Bool) (c : Dev nD) : sProp 𝕄 := iprop(readerAt ES (c, d, 0) 0 ∗ readerAt ES (c, d, 1) 0)
def devReaders (c : Dev nD) : sProp 𝕄 := iprop(dirReaders true c ∗ dirReaders false c)
omit [FloatOps F] in
theorem readers_eq : (bigSep (Finset.univ : Finset Key) (fun k => readerAt ES k 0) : sProp 𝕄) = bigSep Finset.univ (fun c => devReaders c) := by
  rw [bigSep_univ_prod]
  refine bigSep_congr fun c _ => ?_
  rw [bigSep_univ_prod, bigSep_univ_eq_bigSepL [true, false] (by decide) (by decide)]
  exact congrArg₂ (fun P Q : sProp 𝕄 => iprop(P ∗ Q)) (two (F := F) (fun s => readerAt ES (c, true, s) 0)) (two (F := F) (fun s => readerAt ES (c, false, s) 0))

/-! ## The launch's own counters -/

/-- The counters of the kernel's scratch. -/
def osem : Fin 16 → SemLoc sig :=
  ![.reg (credSem true), .dma (semAt (sndSems true) 0), .dma (semAt (sndSems true) 1), .dma (semAt (rcvSems true) 0), .dma (semAt (rcvSems true) 1),
    .reg (credSem false), .dma (semAt (sndSems false) 0), .dma (semAt (sndSems false) 1), .dma (semAt (rcvSems false) 0), .dma (semAt (rcvSems false) 1),
    .dma (semAt (outSems true) 0), .dma (semAt (outSems true) 1), .dma (ownSem true),
    .dma (semAt (outSems false) 0), .dma (semAt (outSems false) 1), .dma (ownSem false)]

theorem ownSemFacts : Pipeline.OwnSemFacts cfg0.spec osem := by decide

/-- The counters of a direction's copies out. -/
def dirOuts (d : Bool) (c : Dev nD) : sProp 𝕄 := iprop(semVal (outCell d c 0) 0 ∗ semVal (outCell d c 1) 0 ∗ semVal (ownCell d c) 0)

omit [FloatOps F] in
theorem ownSems0_eq (c : Dev nD) : (Pipeline.ownSems0 (Ix := ℕ) (Name := ℕ) (U := UU) (Lvl := ℕ) (Val := Elt F) (τ := τ) osem c : sProp 𝕄)
    = iprop(semVal (credCell true c) 0 ∗ semVal (sndCell true c 0) 0 ∗ semVal (sndCell true c 1) 0 ∗ semVal (rcvCell true c 0) 0 ∗ semVal (rcvCell true c 1) 0
        ∗ semVal (credCell false c) 0 ∗ semVal (sndCell false c 0) 0 ∗ semVal (sndCell false c 1) 0 ∗ semVal (rcvCell false c 0) 0 ∗ semVal (rcvCell false c 1) 0
        ∗ semVal (outCell true c 0) 0 ∗ semVal (outCell true c 1) 0 ∗ semVal (ownCell true c) 0
        ∗ semVal (outCell false c 0) 0 ∗ semVal (outCell false c 1) 0 ∗ semVal (ownCell false c) 0) := by
  rw [Pipeline.ownSems0_eq_of_list c osem [0, 1, 2, 3, 4, 5, 6, 7, 8, 9, 10, 11, 12, 13, 14, 15] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barSem] (by decide) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (iprop(devCells (fun g => semVal g 0) c ∗ dirOuts true c ∗ dirOuts false c) : sProp 𝕄) := by
  rw [ownSems0_eq, unscopedSems0_eq]
  unfold devCells dirCells dirOuts
  iintro ⟨⟨H0, H1, H2, H3, H4, H5, H6, H7, H8, H9, H10, H11, H12, H13, H14, H15⟩, HB⟩
  iframe H0 H1 H2 H3 H4 H5 H6 H7 H8 H9 H10 H11 H12 H13 H14 H15 HB
omit [FloatOps F] in
theorem sems0_back (c : Dev nD) :
    (iprop(dirPost true c ∗ dirPost false c) : sProp 𝕄)
      ⊢ Pipeline.ownSems0 (Ix := ℕ) (Name := ℕ) (U := UU) (Lvl := ℕ) (Val := Elt F) (τ := τ) osem c := by
  rw [ownSems0_eq]
  unfold dirPost
  iintro ⟨⟨H1, H2, H3, H4, H0, H10, H11, H12⟩, ⟨H6, H7, H8, H9, H5, H13, H14, H15⟩⟩
  iframe H0 H1 H2 H3 H4 H5 H6 H7 H8 H9 H10 H11 H12 H13 H14 H15

end Cert.KernelIdeal.RS

end
-- ==== Proof.KernelIdeal.Ghost.lean ====
/-
# What each device is given before it starts

The launch's one element makes every invariant and every token; from it and the counters at zero each device gets its
part of the schedule.
-/
module

public import proofs.«01_k».proof.Proof.KernelIdeal.Deal

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-- The part of the launch's element for the schedule and the slots. -/
def x₀ : UB × (US × Counters) := (Rounds.launchOf ringCells ∅ ringToks, (Release.initSlots Finset.univ 15, 1))
/-- The launch's element. -/
def u₀ : UU := (Rounds.initOf (Pipeline.cells cfgs cellOf_inj) (Pipeline.launchToks cfgs cellOf_inj), x₀)

/-- It is held by the first device until the invariants are made. -/
def G (c : Dev nD) : sProp 𝕄 := if c = 0 then BI.own (EX x₀) else iprop(emp)

omit [FloatOps F] in
theorem G_intro : (BI.own (EX x₀) : sProp 𝕄) ⊢ bigSep Finset.univ (fun c => G c) := by
  have h0 : (BI.own (EX x₀) : sProp 𝕄) ⊢ G (0 : Dev nD) := Entails.of_eq (if_pos rfl).symm
  have h1 : (iprop(emp) : sProp 𝕄) ⊢ bigSep (Finset.univ.erase (0 : Dev nD)) (fun c => G c) := by
    refine Entails.of_eq ?_
    rw [bigSep_congr (s := Finset.univ.erase (0 : Dev nD)) (Φ := fun c => G (F := F) c) (Ψ := fun _ => iprop(emp)) fun c hc => if_neg (Finset.ne_of_mem_erase hc)]
    exact (bigSep_emp_const _).symm
  rw [bigSep_univ_at _ (0 : Dev nD)]
  iintro H
  isplitl [H]; · iapply h0; iexact H
  iapply h1; iempintro

omit [FloatOps F] in
theorem G_elim : (bigSep Finset.univ (fun c => G c) : sProp 𝕄) ⊢ BI.own (EX x₀) := by
  rw [bigSep_univ_at _ (0 : Dev nD)]
  have h0 : G (0 : Dev nD) ⊢ (BI.own (EX x₀) : sProp 𝕄) := Entails.of_eq (if_pos rfl)
  iintro ⟨H, -⟩
  iapply h0; iexact H

/-- The invariants and that no round has been left, for all devices. -/
def Pers (I : Ins F) (κ : GSem nD τ sig → ℕ) (ιs : Key → ℕ) : sProp 𝕄 :=
  iprop(bigSep ringCells (fun g => cellInv ER (Rd I) (κ g) g) ∗ bigSep Finset.univ (fun k : Key => slotInv ES (ιs k) k (keySlot k))
    ∗ bigSep ringCells (fun g => reached ER g 0))
instance Pers_persistent (κ ιs) : BI.Persistent (Pers I κ ιs) := by unfold Pers; infer_instance

/-- A device's own part. -/
def devGhost (c : Dev nD) : sProp 𝕄 :=
  iprop(devToks c ∗ devCells (fun g => atPos ER g 0 ∅ 0) c ∗ devReaders c ∗ (dirOuts true c ∗ dirOuts false c))
/-- What the device is given. -/
def G' (I : Ins F) (c : Dev nD) : sProp 𝕄 := iprop(∃ κ ιs, Pers I κ ιs ∗ devGhost c)

theorem fund (I : Ins F) :
    (iprop(bigSep ringCells (fun g => semVal g 0) ∗ BI.own (EX x₀)) : sProp 𝕄)
      ⊢ |={Set.univ}=> iprop(∃ κ ιs, Pers I κ ιs ∗ bigSep ringCells (fun g => atPos ER g 0 ∅ 0) ∗ bigSep Finset.univ (fun k : Key => readerAt ES k 0)
          ∗ bigSep ringToks (fun x => dutyTok ER x.1 x.2.1 x.2.2) ∗ bigSep ((Finset.univ : Finset Key) ×ˢ Finset.range 15) (fun x => writeTok ES x.1 (x.2 + 1))) := by
  have hs : (BI.own (EX x₀) : sProp 𝕄) ⊢ iprop(BI.own (ER (Rounds.launchOf ringCells ∅ ringToks)) ∗ BI.own (ES (Release.initSlots Finset.univ 15))) := by
    unfold x₀
    refine (own_pair_emb EX _ _).trans ?_
    iintro ⟨Ha, Hb⟩
    ihave Hb := (own_pair_emb ((Emb.inr : Emb (US × Counters) (UB × (US × Counters))).trans EX) (Release.initSlots Finset.univ 15) (1 : Counters)) $$ Hb
    icases Hb with ⟨Hb, -⟩
    isplitl [Ha]; · iexact Ha
    iexact Hb
  iintro ⟨Hv, HX⟩
  ihave HX := hs $$ HX
  icases HX with ⟨HA, HB⟩
  imod (Rounds.fund_launch ER (Rd I) (S := ringCells) (Sd := ∅) (Finset.disjoint_empty_right _) (fun g hg => absurd hg (Finset.notMem_empty g)) ringToks ∅) $$ [Hv HA] with ⟨%κ, -, Hi, Hr, Hat, -, Ht⟩
  · isplitl [Hv]; · iexact Hv
    iexact HA
  imod (Release.slots_init ES (Finset.univ : Finset Key) 15 keySlot ∅) $$ HB with ⟨%ιs, -, Hsi, Hrd, Hw⟩
  imodintro
  iexists κ; iexists ιs
  ihave Hi := (Entails.of_eq (congrArg (fun S => bigSep S (fun g => (cellInv ER (Rd I) (κ g) g : sProp 𝕄))) (Finset.union_empty ringCells))) $$ Hi
  isplitl [Hi Hr Hsi]
  · unfold Pers
    isplitl [Hi]; · iexact Hi
    isplitl [Hsi]; · iexact Hsi
    iexact Hr
  isplitl [Hat]; · iexact Hat
  isplitl [Hrd]; · iexact Hrd
  isplitl [Ht]; · iexact Ht
  iexact Hw

theorem glob (I : Ins F) :
    (bigSep Finset.univ fun c => iprop(Pipeline.ownSems0 (Ix := ℕ) (Name := ℕ) (U := UU) (Lvl := ℕ) (Val := Elt F) (τ := τ) osem c ∗ unscopedSems0 c ∗ G c) : sProp 𝕄)
      ⊢ |={Set.univ}=> bigSep Finset.univ (fun c => G' I c) := by
  have h1 (c : Dev nD) : (iprop(Pipeline.ownSems0 (Ix := ℕ) (Name := ℕ) (U := UU) (Lvl := ℕ) (Val := Elt F) (τ := τ) osem c ∗ unscopedSems0 c ∗ G c) : sProp 𝕄)
      ⊢ iprop(bigSep Finset.univ (fun k : Fin 11 => semVal (ringCell (c, k)) 0) ∗ (dirOuts true c ∗ dirOuts false c) ∗ G c) := by
    iintro ⟨Ho, Hu, HG⟩
    ihave H := (sems0_eq (F := F) c) $$ [Ho Hu]
    · isplitl [Ho]; · iexact Ho
      iexact Hu
    icases H with ⟨Hc, Hd⟩
    isplitl [Hc]; · iapply (of_cells (fun g => semVal g 0) c); iexact Hc
    isplitl [Hd]; · iexact Hd
    iexact HG
  have h2 (κ ιs) (c : Dev nD) (_ : c ∈ Finset.univ) : iprop(Pers I κ ιs ∗ devGhost c) ⊢ (G' I c : sProp 𝕄) := by
    unfold G'
    iintro H
    iexists κ; iexists ιs; iexact H
  have h3 : (bigSep Finset.univ fun c => iprop(Pipeline.ownSems0 (Ix := ℕ) (Name := ℕ) (U := UU) (Lvl := ℕ) (Val := Elt F) (τ := τ) osem c ∗ unscopedSems0 c ∗ G c) : sProp 𝕄)
      ⊢ bigSep Finset.univ fun c => iprop(bigSep Finset.univ (fun k : Fin 11 => semVal (ringCell (c, k)) 0) ∗ (dirOuts true c ∗ dirOuts false c) ∗ G c) :=
    bigSep_mono fun c _ => h1 c
  have h4 : (bigSep Finset.univ fun c => iprop(bigSep Finset.univ (fun k : Fin 11 => semVal (ringCell (c, k)) 0) ∗ (dirOuts true c ∗ dirOuts false c) ∗ G c) : sProp 𝕄)
      = iprop((bigSep Finset.univ fun c : Dev nD => bigSep Finset.univ (fun k : Fin 11 => semVal (ringCell (c, k)) 0))
          ∗ (bigSep Finset.univ (fun c => dirOuts true c) ∗ bigSep Finset.univ (fun c => dirOuts false c)) ∗ bigSep Finset.univ (fun c => G c)) := by
    simp only [bigSep_sep']
  iintro H
  ihave H := h3 $$ H
  ihave H := (Entails.of_eq h4) $$ H
  icases H with ⟨Hv, ⟨Ho1, Ho0⟩, HG⟩
  ihave Hv := (Entails.of_eq (ringCells_eq (F := F) (fun g => semVal g 0)).symm) $$ Hv
  ihave HG := (G_elim (F := F)) $$ HG
  imod (fund I) $$ [Hv HG] with ⟨%κ, %ιs, HP, Hat, Hrd, Ht, Hw⟩
  · isplitl [Hv]; · iexact Hv
    iexact HG
  imodintro
  ihave Ht := (toks_deal (F := F)) $$ [Ht Hw]
  · isplitl [Ht]; · iexact Ht
    iexact Hw
  ihave Hat := (Entails.of_eq (ringCells_eq (F := F) (fun g => atPos ER g 0 ∅ 0))) $$ Hat
  ihave Hat := (show (bigSep Finset.univ (fun c : Dev nD => bigSep Finset.univ (fun k : Fin 11 => atPos ER (ringCell (c, k)) 0 ∅ 0)) : sProp 𝕄)
    ⊢ bigSep Finset.univ (fun c => devCells (fun g => atPos ER g 0 ∅ 0) c) from bigSep_mono fun c _ => cells_of (fun g => atPos ER g 0 ∅ 0) c) $$ Hat
  ihave Hrd := (Entails.of_eq (readers_eq (F := F))) $$ Hrd
  iapply (bigSep_with_persistent (S := (Finset.univ : Finset (Dev nD))) (R := Pers I κ ιs) (Φ := fun c => devGhost c) (Ψ := fun c => G' I c) (h2 κ ιs))
  isplitl [HP]; · iexact HP
  unfold devGhost
  simp only [bigSep_sep']
  isplitl [Ht]; · iexact Ht
  isplitl [Hat]; · iexact Hat
  isplitl [Hrd]; · iexact Hrd
  isplitl [Ho1]; · iexact Ho1
  iexact Ho0

end Cert.KernelIdeal.RS

end
-- ==== Proof.KernelIdeal.Credits.lean ====
/-
# The units each device will be sent

All that the devices owe at the start, counted by the counter it is owed to.
-/
module

public import proofs.«01_k».proof.Proof.KernelIdeal.Ghost

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv)

variable {F : FTy → Type} [FloatOps F]

local notation "𝕄" => MT nD τ sig ℕ (Elt F) ℕ UU ℕ

variable {I : Ins F} {κ : GSem nD τ sig → ℕ} {ιs : Key → ℕ}

/-- What arrives at a device in one direction: thirty blocks, -/
def inR (d : Bool) (c : Dev nD) : CellTallies nD τ sig ℕ := ∑ t ∈ Finset.Ico 0 30, tallyAt (rcvCell d c (par t)) t NB
/-- and twenty-eight credits. -/
def inC (d : Bool) (c : Dev nD) : CellTallies nD τ sig ℕ := ∑ k ∈ Finset.Ico 0 28, tallyAt (credCell d c) k 1
def inB (c : Dev nD) : CellTallies nD τ sig ℕ := tallyAt (barCell c) 0 1
/-- All that arrives at a device. -/
def inAll (c : Dev nD) : CellTallies nD τ sig ℕ := (((inR true c + inC true c) + (inR false c + inC false c)) + inB c) + inB c

theorem O₀_eq (c : Dev nD) : O₀ c
    = (((inR true (toD true c) + inC true (toD false c)) + (inR false (toD false c) + inC false (toD true c))) + inB (toD false c)) + inB (toD true c) := rfl

theorem sum_ring (d : Bool) (f : Dev nD → CellTallies nD τ sig ℕ) : ∑ c, f (toD d c) = ∑ c, f c := Equiv.sum_comp (ring d) f

theorem owed_all : ∑ c, O₀ c = ∑ c, inAll c := by
  simp only [O₀_eq, inAll, Finset.sum_add_distrib]
  rw [sum_ring true (fun c => inR true c), sum_ring false (fun c => inC true c), sum_ring false (fun c => inR false c),
    sum_ring true (fun c => inC false c), sum_ring false inB, sum_ring true inB]

theorem inAll_ne (c : Dev nD) (g : GSem nD τ sig) (h : g.1 ≠ (c : Thread nD τ)) : inAll c g = 0 := by
  have hc (sm : SemLoc sig) : g ≠ ((c : Thread nD τ), sm) := fun e => h (congrArg Prod.fst e)
  have hR (d) : inR d c g = 0 := by
    unfold inR; rw [Finset.sum_apply]; exact Finset.sum_eq_zero fun t _ => tallyAt_ne_cell (hc _) _ _
  have hC (d) : inC d c g = 0 := by
    unfold inC; rw [Finset.sum_apply]; exact Finset.sum_eq_zero fun t _ => tallyAt_ne_cell (hc _) _ _
  have hB : inB c g = 0 := tallyAt_ne_cell (hc _) _ _
  unfold inAll
  simp only [Pi.add_apply, hR, hC, hB, add_zero]

theorem owed_at (c : Dev nD) (sm : SemLoc sig) : (∑ d, O₀ d) ((c : Thread nD τ), sm) = inAll c ((c : Thread nD τ), sm) := by
  rw [owed_all, Finset.sum_apply]
  exact Finset.sum_eq_single c (fun d _ h => inAll_ne d _ fun e => h (congrArg Prod.fst e).symm) (fun h => absurd (Finset.mem_univ c) h)

omit [FloatOps F] in
theorem cred_sum (A B : CellTallies nD τ sig ℕ) : (cred (A + B) : sProp 𝕄) = iprop(cred A ∗ cred B) :=
  Entails.antisymm (cred_add A B).1 (cred_add A B).2

/-- What a direction waits for. -/
def dirCred (d : Bool) (c : Dev nD) : sProp 𝕄 :=
  iprop(bigSep (Finset.Ico 0 30) (fun t => cred (tallyAt (rcvCell d c (par t)) t NB)) ∗ credCrs d c 0)

omit [FloatOps F] in
theorem launch_cred (c : Dev nD) :
    (Pipeline.launchCred O₀ c : sProp 𝕄) ⊢ iprop(dirCred true c ∗ dirCred false c ∗ cred (tallyAt (barCell c) 0 2)) := by
  have h1 : (Pipeline.launchCred O₀ c : sProp 𝕄) = cred (inAll c) := by
    rw [Pipeline.cred_core (T := inAll c) (c := c) fun g hg => by by_contra h; exact hg (inAll_ne c g h)]
    unfold Pipeline.launchCred
    refine bigSep_congr fun sm _ => ?_
    rw [Pipeline.tallyOn_launchCredit_owing]
    exact congrArg (fun x => (cred (tallyOn ((c : Thread nD τ), sm) x) : sProp 𝕄)) (owed_at c sm)
  have h2 : inAll c = ((inR true c + inC true c) + (inR false c + inC false c)) + tallyAt (barCell c) 0 2 := by
    unfold inAll inB; rw [add_assoc, tallyAt_add]
  rw [h1, h2, cred_sum, cred_sum, cred_sum, cred_sum]
  unfold inR inC dirCred credCrs
  simp only [Pipeline.cred_finsetSum]
  iintro ⟨⟨⟨Ha, Hb⟩, ⟨Hc, Hd⟩⟩, He⟩
  isplitl [Ha Hb]
  · isplitl [Ha]; · iexact Ha
    iexact Hb
  isplitl [Hc Hd]
  · isplitl [Hc]; · iexact Hc
    iexact Hd
  iexact He

/-! ## A device's start -/

omit [FloatOps F] in
theorem kits_of (d : Bool) (c : Dev nD) :
    iprop(wrTok d (toD d c) ∗ sndTok d c ∗ rcvTok d (toD d c) ∗ bigSep (Finset.Ico 0 30) (fun t => cred (tallyAt (rcvCell d c (par t)) t NB)))
      ⊢ (kits d c 0 : sProp 𝕄) := by
  refine Entails.of_eq ?_
  unfold kits kitP wrTok sndTok rcvTok
  rw [Finset.range_eq_Ico]
  simp only [bigSep_sep']

theorem reach (I : Ins F) (κ : GSem nD τ sig → ℕ) (ιs : Key → ℕ) {g : GSem nD τ sig} (h : g ∈ ringCells) : Pers I κ ιs ⊢ (reached ER g 0 : sProp 𝕄) := by
  have h' : bigSep ringCells (fun g => reached ER g 0) ⊢ (reached ER g 0 : sProp 𝕄) := bigSep_elim (Φ := fun g => reached ER g 0) h
  unfold Pers
  iintro ⟨-, -, H⟩
  iapply h'; iexact H

theorem recs_of (I : Ins F) (κ : GSem nD τ sig → ℕ) (ιs : Key → ℕ) : iprop(Pers I κ ιs ∗ levAts L lv) ⊢ (Recs I κ ιs : sProp 𝕄) := by
  unfold Pers Recs
  iintro ⟨⟨H1, H2, -⟩, H3⟩
  isplitl [H1]; · iexact H1
  isplitl [H2]; · iexact H2
  iexact H3

theorem dir_start (I : Ins F) (κ : GSem nD τ sig → ℕ) (ιs : Key → ℕ) (d : Bool) (c : Dev nD) :
    iprop(Pers I κ ιs ∗ kitToks d c ∗ dirCells (fun g => atPos ER g 0 ∅ 0) d c ∗ dirReaders d c ∗ dirOuts d c ∗ dirCred d c) ⊢ (dirPre d c : sProp 𝕄) := by
  unfold kitToks dirCells dirReaders dirOuts dirCred dirPre posP credToks
  iintro ⟨#HP, ⟨Hct, Hst, Hrt, Hwt⟩, ⟨Hc, Hs0, Hs1, Hr0, Hr1⟩, ⟨Hd0, Hd1⟩, ⟨Ho0, Ho1, Ho2⟩, ⟨Hcr, Hcc⟩⟩
  ihave #Hq0 := (reach I κ ιs (mem_snd d c 0)) $$ HP
  ihave #Hq1 := (reach I κ ιs (mem_snd d c 1)) $$ HP
  ihave #Hq2 := (reach I κ ιs (mem_rcv d c 0)) $$ HP
  ihave #Hq3 := (reach I κ ιs (mem_rcv d c 1)) $$ HP
  ihave #Hq4 := (reach I κ ιs (mem_cred d (toD (!d) c))) $$ HP
  ihave Hk := (kits_of (F := F) d c) $$ [Hwt Hst Hrt Hcr]
  · isplitl [Hwt]; · iexact Hwt
    isplitl [Hst]; · iexact Hst
    isplitl [Hrt]; · iexact Hrt
    iexact Hcr
  isplitl [Hk]; · iexact Hk
  isplitl [Hs0 Hr0]
  · isplitl [Hs0]; · iexact Hs0
    isplitr; · iexact Hq0
    isplitl [Hr0]; · iexact Hr0
    iexact Hq2
  isplitl [Hs1 Hr1]
  · isplitl [Hs1]; · iexact Hs1
    isplitr; · iexact Hq1
    isplitl [Hr1]; · iexact Hr1
    iexact Hq3
  isplitl [Hcc]; · iexact Hcc
  isplitl [Hc]; · iexact Hc
  isplitl [Hct]; · iapply (Entails.of_eq (show credTok (F := F) d (toD (!d) c) = _ by unfold credTok; rw [Finset.range_eq_Ico])); iexact Hct
  isplitr; · iexact Hq4
  isplitl [Hd0]; · iexact Hd0
  isplitl [Hd1]; · iexact Hd1
  isplitl [Ho0]; · iexact Ho0
  isplitl [Ho1]; · iexact Ho1
  iexact Ho2

/-- What a device holds before the kernel starts, its buffers aside. -/
def devStart (I : Ins F) (c : Dev nD) : sProp 𝕄 :=
  iprop((∃ κ ιs, Recs I κ ιs) ∗ barPre c ∗ dirPre true c ∗ dirPre false c)

theorem dev_start (I : Ins F) (c : Dev nD) :
    iprop(levAts L lv ∗ Pipeline.launchCred O₀ c ∗ G' I c) ⊢ (devStart I c : sProp 𝕄) := by
  unfold G' devGhost devToks devCells devReaders devStart barPre barTok
  iintro ⟨HL, Hcr, ⟨%κ, %ιs, #HP, ⟨Hb1, Hb0, Hk1, Hk0⟩, ⟨Hab, Ha1, Ha0⟩, ⟨Hd1, Hd0⟩, ⟨Ho1, Ho0⟩⟩⟩
  ihave Hcr := (launch_cred (F := F) c) $$ Hcr
  icases Hcr with ⟨Hc1, Hc0, Hcb⟩
  ihave #Hq1 := (reach I κ ιs (mem_bar (toD true c))) $$ HP
  ihave #Hq0 := (reach I κ ιs (mem_bar (toD false c))) $$ HP
  isplitl [HL]
  · iexists κ; iexists ιs
    iapply (recs_of I κ ιs)
    isplitr; · iexact HP
    iexact HL
  isplitl [Hb1 Hb0 Hcb Hab]
  · isplitl [Hb1]; · iexact Hb1
    isplitr; · iexact Hq1
    isplitl [Hb0]; · iexact Hb0
    isplitr; · iexact Hq0
    isplitl [Hcb]; · iexact Hcb
    iexact Hab
  isplitl [Hk1 Ha1 Hd1 Ho1 Hc1]
  · iapply (dir_start I κ ιs true c)
    isplitr; · iexact HP
    isplitl [Hk1]; · iexact Hk1
    isplitl [Ha1]; · iexact Ha1
    isplitl [Hd1]; · iexact Hd1
    isplitl [Ho1]; · iexact Ho1
    iexact Hc1
  iapply (dir_start I κ ιs false c)
  isplitr; · iexact HP
  isplitl [Hk0]; · iexact Hk0
  isplitl [Ha0]; · iexact Ha0
  isplitl [Hd0]; · iexact Hd0
  isplitl [Ho0]; · iexact Ho0
  iexact Hc0

end Cert.KernelIdeal.RS

end
-- ==== Proof.KernelIdeal.Launch.lean ====
module

public import Idealize.ShloMosaic.Lib.Pipeline.Launch
public import Idealize.ShloMosaic.Lib.Pipeline.Kit
public import Idealize.ShloMosaic.Lib.Pipeline.CollectiveSegs
public import proofs.«01_k».proof.Proof.KernelIdeal.Credits

@[expose] public section

noncomputable section

/-!
# The launch

The kernel's run from any memory: the four input windows are staged, the body runs under the ring's schedule, and
the result array of every device ends with every block the schedule says it holds.
-/

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv)

variable {F : FTy → Type} [FloatOps F]

local notation "𝕄" => MT nD τ sig ℕ (Elt F) ℕ UU ℕ

open Idealize.ShloMosaic.Pipeline

variable (m : (ℓ : Loc nD τ sig) → Buf (Elt F) ℓ) (ρ : Dev nD → PrngReg)

/-- The state a run starts from. -/
abbrev startSt : MemSt nD τ sig (Elt F) := ⟨m, fun _ => 0, ρ⟩

/-- What the four staging buffers of every device hold once fetched. -/
def insOf : Ins F where
  x c := (win0_0.blk (0 : Fin 1)).view.read (Elt F) (m ((c : Thread nD τ).loc main_arg0))
  w c := (win0_1.blk (0 : Fin 1)).view.read (Elt F) (m ((c : Thread nD τ).loc main_arg1))
  sx c := (win0_2.blk (0 : Fin 1)).view.read (Elt F) (m ((c : Thread nD τ).loc main_arg2))
  sw c := (win0_3.blk (0 : Fin 1)).view.read (Elt F) (m ((c : Thread nD τ).loc main_arg3))

/-- The scratch buffers the body uses. -/
def scr (c : Dev nD) : sProp 𝕄 := iprop(wbAny c ∗ dirBuf true c ∗ dirBuf false c)

/-- What the launch gives a device's body beside its buffers. -/
def given (c : Dev nD) : sProp 𝕄 :=
  iprop(devStart (insOf m) c ∗ (((c : Thread nD τ).loc main_v1) ↦{fullShare} m ((c : Thread nD τ).loc main_v1)))

/-- The result array with every block in place. -/
def resPts (c : Dev nD) : sProp 𝕄 :=
  iprop(∃ f : Buf (Elt F) ((c : Thread nD τ).loc main_v1), ⌜IsOut (insOf m) c f⌝ ∗ (((c : Thread nD τ).loc main_v1) ↦{fullShare} f))

def Φ₀ (c : Dev nD) : sProp 𝕄 := iprop(given m c ∗ scr c)
def Φ₁ (c : Dev nD) : sProp 𝕄 :=
  iprop(resPts m c ∗ scr c ∗ dirPost true c ∗ dirPost false c ∗ semVal (barCell c) 0)

/-- The one grid point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The pipeline's data: the inputs stay what they are, the body takes `Φ₀` to `Φ₁` and settles what it owes. -/
def dats (_ : Fin 1) (c : Dev nD) : Dat τ (Elt F) ℕ ℕ UU ℕ cfg0 c where
  A w := (startSt m ρ).mem ((cfg0.win w).arr.view.loc (c : Thread nD τ))
  after w _ := match w with
    | ⟨0, _⟩ => (insOf m).x c
    | ⟨1, _⟩ => (insOf m).w c
    | ⟨2, _⟩ => (insOf m).sx c
    | ⟨3, _⟩ => (insOf m).sw c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body at the point -/

/-- A staging buffer at given contents, as the pipeline says it. -/
def stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (c : Thread nD τ) (Memref.whole b) fullShare X : sProp 𝕄) = stg c b X := by
  unfold owns stg; simp only [Memref.view_whole, View.read_whole, View.set_whole]

theorem stg_intro (c : Dev nD) (b : Ref sig .tc) (X : Buf (Elt F) ((c : Thread nD τ).loc b)) :
    ((((c : Thread nD τ).loc b) ↦{fullShare} X) : sProp 𝕄) ⊢ stg c b X := by
  unfold stg
  iintro H
  iexists X
  isplitr; · (ipureintro; rfl)
  iexact H

theorem stg_elim (c : Dev nD) (b : Ref sig .tc) {X Y : Buf (Elt F) ((c : Thread nD τ).loc b)} (h : X = Y) :
    (stg c b X : sProp 𝕄) ⊢ (((c : Thread nD τ).loc b) ↦{fullShare} Y) := by
  unfold stg
  iintro ⟨%f, %hf, H⟩
  subst hf h
  iexact H

def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))

def bodyPost (c : Dev nD) : sProp 𝕄 :=
  iprop(Φ₁ m c ∗ (dats m ρ 0 c).owesAt (0 : ℕ) t₀.succ
    ∗ stg c cc0_stg0_0 ((insOf m).x c) ∗ stg c cc0_stg1_0 ((insOf m).w c) ∗ stg c cc0_stg2_0 ((insOf m).sx c) ∗ stg c cc0_stg3_0 ((insOf m).sw c))

theorem fetch_all (w : Fin 4) : (cfg0.win w).fetch t₀ = true := by fin_cases w <;> rfl
theorem before_x (c : Dev nD) (d) : (dats m ρ 0 c).before (0 : Fin 4) t₀ d = (insOf m).x c := by
  unfold Dat.before; rw [if_pos (fetch_all 0)]; rfl
theorem before_w (c : Dev nD) (d) : (dats m ρ 0 c).before (1 : Fin 4) t₀ d = (insOf m).w c := by
  unfold Dat.before; rw [if_pos (fetch_all 1)]; rfl
theorem before_sx (c : Dev nD) (d) : (dats m ρ 0 c).before (2 : Fin 4) t₀ d = (insOf m).sx c := by
  unfold Dat.before; rw [if_pos (fetch_all 2)]; rfl
theorem before_sw (c : Dev nD) (d) : (dats m ρ 0 c).before (3 : Fin 4) t₀ d = (insOf m).sw c := by
  unfold Dat.before; rw [if_pos (fetch_all 3)]; rfl

/-- The four staging buffers as the body holds them. -/
theorem staged_in (c : Dev nD) :
    iprop((∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
      ⊢ iprop(xPts (insOf m) c ∗ wPts (insOf m) c ∗ sPts (insOf m) c) := by
  unfold xPts wPts sPts
  iintro ⟨⟨%d0, H0⟩, ⟨%d1, H1⟩, ⟨%d2, H2⟩, ⟨%d3, H3⟩⟩
  ihave K0 := (stg_elim c cc0_stg0_0 (before_x m ρ c d0)) $$ H0
  ihave K1 := (stg_elim c cc0_stg1_0 (before_w m ρ c d1)) $$ H1
  ihave K2 := (stg_elim c cc0_stg2_0 (before_sx m ρ c d2)) $$ H2
  ihave K3 := (stg_elim c cc0_stg3_0 (before_sw m ρ c d3)) $$ H3
  iframe K0 K1 K2 K3

theorem staged_out (c : Dev nD) :
    iprop(xPts (insOf m) c ∗ wPts (insOf m) c ∗ sPts (insOf m) c)
      ⊢ iprop(stg c cc0_stg0_0 ((insOf m).x c) ∗ stg c cc0_stg1_0 ((insOf m).w c) ∗ stg c cc0_stg2_0 ((insOf m).sx c) ∗ stg c cc0_stg3_0 ((insOf m).sw c)) := by
  unfold xPts wPts sPts
  iintro ⟨H0, H1, H2, H3⟩
  ihave K0 := (stg_intro c cc0_stg0_0 _) $$ H0
  ihave K1 := (stg_intro c cc0_stg1_0 _) $$ H1
  ihave K2 := (stg_intro c cc0_stg2_0 _) $$ H2
  ihave K3 := (stg_intro c cc0_stg3_0 _) $$ H3
  iframe K0 K1 K2 K3

/-- The body's start, in the form its rule takes. -/
theorem body_in (c : Dev nD) : iprop(Φ₀ m c ∗ xPts (insOf m) c ∗ wPts (insOf m) c ∗ sPts (insOf m) c)
    ⊢ iprop((∃ κ ιs, Recs (insOf m) κ ιs) ∗ barPre c ∗ bufs (insOf m) c ∗ startOf true c ∗ startOf false c) := by
  unfold Φ₀ given devStart scr bufs startOf
  iintro ⟨⟨⟨⟨HR, Hb, H1, H2⟩, Ho⟩, ⟨Hw, B1, B2⟩⟩, Hx, Hw1, Hs⟩
  ihave Ho := (out_split c _) $$ Ho
  icases Ho with ⟨T1, T2⟩
  iframe HR Hb Hx Hw1 Hs Hw H1 B1 T1 H2 B2 T2

/-- The body's end, in the form the pipeline takes. -/
theorem body_out (c : Dev nD) :
    iprop(bufs (insOf m) c ∗ endOf (insOf m) true c ∗ endOf (insOf m) false c ∗ semVal (barCell c) 0)
      ⊢ iprop(Φ₁ m c ∗ (xPts (insOf m) c ∗ wPts (insOf m) c ∗ sPts (insOf m) c)) := by
  unfold Φ₁ resPts scr bufs endOf
  iintro ⟨⟨Hx, Hw, Hs, Hb⟩, ⟨B1, D1, P1⟩, ⟨B2, D2, P2⟩, Hz⟩
  ihave Ho := (out_join (insOf m) c) $$ [D1 D2]
  · iframe D1 D2
  iframe Ho Hb B1 B2 P1 P2 Hz Hx Hw Hs

theorem sound_body (c : Dev nD) : bodyPre m ρ c ⊢ WP c (ringProg c) (fun _ => bodyPost m ρ c) := by
  unfold bodyPre bodyPost Dat.owesAt Pipeline.owesWithin
  rw [show (dats m ρ 0 c).owed t₀.castSucc = O₀ c from rfl, show (dats m ρ 0 c).owed t₀.succ = 0 from rfl]
  iintro ⟨HΦ, ⟨%W, %hW, HO⟩, Hstg⟩
  ihave Hst := (staged_in m ρ c) $$ Hstg
  ihave H := (body_in m c) $$ [HΦ Hst]
  · iframe HΦ Hst
  icases H with ⟨⟨%κ, %ιs, #HR⟩, H⟩
  icases H with ⟨Hb, Hbuf, H1, H2⟩
  iapply wp_wand $$ [Hb Hbuf H1 H2 HO]
  · iapply (body_rule (I := insOf m) (κ := κ) (ιs := ιs) c) $$ [Hb Hbuf H1 H2 HO]
    isplitr; · iexact HR
    iframe Hb Hbuf H1 H2
    unfold ow
    iexists W
    iexact HO
  iintro %u ⟨Hbuf, E1, E2, Hz, HO⟩
  ihave H := (body_out m c) $$ [Hbuf E1 E2 Hz]
  · iframe Hbuf E1 E2 Hz
  icases H with ⟨HΦ, Hst⟩
  ihave Hs := (staged_out m c) $$ Hst
  isplitl [HΦ]; · iexact HΦ
  isplitl [HO]
  · unfold ow
    icases HO with ⟨%W', HO⟩
    iexists W'
    isplitr; · (ipureintro; exact fun _ _ => Or.inl trivial)
    iexact HO
  iexact Hs

set_option maxRecDepth 100000 in
theorem body_obligation (c : Dev nD) : BodyObligation (dats (F := F) m ρ 0 c) (defs₀ (F := F)) 𝒱₀ (0 : ℕ) Set.univ := fun t => by
  rw [fin_N t]
  rw [bigSep_W0, bigSep_W0]
  simp only [owns_whole_eq]
  show bodyPre m ρ c ⊢ wp frame (wpE (defs₀ (F := F)) 𝒱₀ c none) Set.univ (bodyAt0 t₀) (fun _ => bodyPost m ρ c)
  rw [body_eq, wp_deviceId]
  exact sound_body m ρ c

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(given m c ∗ emp) := by
  rw [Pipeline.unscopedRestP_none, unscopedRest0_eq]
  unfold given
  iintro ⟨Ho, Hlev, Hcr, -, HG⟩
  ihave Hd := (dev_start (insOf m) c) $$ [Hlev Hcr HG]
  · iframe Hlev Hcr HG
  imodintro
  iframe Hd Ho

theorem phi0_intro (c : Dev nD) :
    iprop(given m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scr
  iintro ⟨Hg, -, Hs⟩
  ihave Hs := (scr_split c) $$ Hs
  iframe Hg Hs

theorem phi1_exit (c : Dev nD) :
    (dats m ρ 0 c).Φ (Fin.last cfg0.N)
      ⊢ iprop((unscopedSems0 c ∗ resPts m c) ∗ Pipeline.ownSems0 osem c ∗ Pipeline.scopedRest cfg0.spec c) := by
  rw [show (dats m ρ 0 c).Φ (Fin.last cfg0.N) = Φ₁ m c from rfl, unscopedSems0_eq]
  unfold Φ₁ scr
  iintro ⟨Ho, Hs, P1, P2, Hz⟩
  ihave Hs := (scr_join c) $$ Hs
  ihave Hq := (sems0_back c) $$ [P1 P2]
  · iframe P1 P2
  iframe Hz Ho Hq Hs

theorem O₀_above (c : Dev nD) : Above 0 (O₀ c) := by
  unfold O₀
  exact (((Od_above true c (by omega) (by omega)).add (Od_above false c (by omega) (by omega))).add
    (Above.at (by rw [L_tc]; exact Finset.mem_range.mpr (by omega)) (by rw [lv_bar]; omega))).add
    (Above.at (by rw [L_tc]; exact Finset.mem_range.mpr (by omega)) (by rw [lv_bar]; omega))

theorem cell_waits (c : Dev nD) : (levAts L lv : sProp 𝕄) ⊢ Pipeline.cellsWaits cfgs (dats m ρ) (0 : ℕ) 0 c :=
  Pipeline.cellsWaits_intro cfgs (dats m ρ) (0 : ℕ) 0 c fun w s t => by
    refine may_wait c _ (i := 0) (n := 0) (by omega) (by revert c; fin_cases w <;> fin_cases s <;> decide) ?_
    rcases t with ⟨_ | _, ht⟩
    · exact O₀_above c
    · exact Above.zero 0

/-- The result array, read off the memory. -/
theorem res_read (c : Dev nD) (s' : Phys nD τ sig (Elt F)) :
    iprop(resPts m c ∗ SI s') ⊢ iprop(⌜IsOut (insOf m) c (s'.mem.mem ((c : Thread nD τ).loc main_v1))⌝ ∗ (SI s' : sProp 𝕄)) := by
  unfold resPts
  iintro ⟨⟨%f, %hf, H⟩, HS⟩
  ihave H := (pointsTo_read_all (I := Unit) {()} (fun _ => (c : Thread nD τ).loc main_v1) (fun _ => f) s') $$ [H HS]
  · isplitl [H]
    · rw [bigSep_singleton]; iexact H
    · iexact HS
  icases H with ⟨%h, HS⟩
  isplitr
  · ipureintro
    rw [h () (Finset.mem_singleton_self _)]
    exact hf
  · iexact HS

/-! ## The run -/

/-- What a run ends with: every input window's array as the pipeline leaves it, and the result array's blocks. -/
def QC (r : PUnit × MemSt nD τ sig (Elt F)) : Prop :=
  ∀ c : Dev nD, (∀ w : Fin cfg0.W, r.2.mem ((cfg0.win w).arr.view.loc (c : Thread nD τ)) = (dats m ρ 0 c).arrAt w cfg0.N)
    ∧ IsOut (insOf m) c (r.2.mem ((c : Thread nD τ).loc main_v1))

set_option maxRecDepth 100000 in
theorem run_main : θ_run defs (onTc (τ := τ) (main (F := F))) (startSt m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl) (hbody := body_obligation m ρ) (hne := fun w => block_pos0 w)
    (harr := arr_whole0) (hstage := stage_whole0) (hshare := share_eq m ρ)
    (hdistinct := winFacts0.arr_inj) (O₀ := O₀) (howed₀ := fun _ => rfl) (howedN := fun _ => rfl)
    (L := L) (lv := lv) (hL := L_of_ne) (hwaits := cell_waits m ρ) (G := G) (G' := G' (insOf m)) (u₀ := u₀)
    (hu₀ := by
      unfold u₀
      iintro Hu
      ihave H := (ownU_pair _ _) $$ Hu
      icases H with ⟨HP, HX⟩
      imodintro
      isplitl [HP]; · iexact HP
      iapply G_intro $$ HX)
    (hglob := glob (insOf m)) (hA := fun _ _ => rfl) (hpf := fun _ k => k.elim0)
    (X := given m) (Y := fun c => iprop(unscopedSems0 c ∗ resPts m c)) (Z := fun _ => iprop(emp))
    (hX := start_intro m ρ) (hin := phi0_intro m ρ) (hout := phi1_exit m ρ)
    (QY := fun c s => (∀ sm, sm.isScoped .tc = false → s.sem ((c.tc : Thread nD τ), sm) = 0) ∧ IsOut (insOf m) c (s.mem ((c : Thread nD τ).loc main_v1)))
    (hY := fun c s' => by
      iintro ⟨⟨Hu, Hr⟩, -, HSI⟩
      ihave H := (res_read m c s') $$ [Hr HSI]
      · iframe Hr HSI
      icases H with ⟨%h1, HSI⟩
      imod (Pipeline.unscopedSems0_read (X := unscopedSems0 c) (c := c) fupd_intro s') $$ [Hu HSI] with H
      · iframe Hu HSI
      icases H with ⟨%h2, HSI⟩
      imodintro
      isplitr; · (ipureintro; exact ⟨h2, h1⟩)
      iexact HSI)
    (hQ := fun _ h hs => ⟨fun c => ⟨(h c).1, (h c).2.2.2⟩, sem_eq_zero hs fun c => (h c).2.2.1⟩)

/-- An input's array after the run holds what it held. -/
theorem input_kept (c : Dev nD) (w : Fin cfg0.W) (hw : (cfg0.win w).isOut = false) :
    (dats m ρ 0 c).arrAt w cfg0.N = m ((cfg0.win w).arr.view.loc (c : Thread nD τ)) :=
  (dats (F := F) m ρ 0 c).arrAt_in w hw _

theorem inputs_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans (input_kept m ρ c (0 : Fin 4) rfl), ((h c).1 (1 : Fin 4)).trans (input_kept m ρ c (1 : Fin 4) rfl),
    ((h c).1 (2 : Fin 4)).trans (input_kept m ρ c (2 : Fin 4) rfl), ((h c).1 (3 : Fin 4)).trans (input_kept m ρ c (3 : Fin 4) rfl)⟩

/-- The run with its values: the arguments as they were, every block of the result in place. -/
theorem run_values : θ_run defs (onTc (τ := τ) (main (F := F))) ⟨m, fun _ => 0, ρ⟩ (fun r => ∀ c : Dev nD,
    IsOut (insOf m) c (r.2.mem ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2, inputs_kept m ρ h.1 c⟩) (run_main m ρ)

/-- The run without its values: it ends, the arguments are as they were and every counter is back at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => inputs_kept m ρ h.1 c, h.2⟩) (run_main m ρ)

end Cert.KernelIdeal.RS

end
-- ==== Proof.Values.Ring.lean ====
/-
# Who added what

The block that a device sends at step `t` has been through `t` devices before it. `back d s c` is the device `s`
steps up the ring; `rowOf c d t` is the row block that device `c` works on at step `t`. Going one step up the ring
and one step back in time stays with the same row block, and sixteen steps meet every device once.
-/
module

public import proofs.«01_k».proof.Proof.KernelIdeal.Shares

@[expose] public section

noncomputable section

namespace Cert.RingValue

open Cert.KernelIdeal Cert.KernelIdeal.Gen Cert.KernelIdeal.RS
open Idealize.ShloMosaic Idealize.ShloMosaic.TcCoe
open scoped BigOperators

/-- The device `s` steps up the ring. -/
def back (d : Bool) : ℕ → Dev nD → Dev nD
  | 0, c => c
  | s + 1, c => back d s (toD (!d) c)

theorem back_zero (d : Bool) (c : Dev nD) : back d 0 c = c := rfl
theorem back_succ (d : Bool) (s : ℕ) (c : Dev nD) : back d (s + 1) c = back d s (toD (!d) c) := rfl

theorem rowOf_lt (c : Dev nD) (d : Bool) (r : ℕ) : rowOf c d r < 16 := by
  unfold rowOf; split <;> exact Nat.mod_lt _ (by decide)

/-- The first chunk of `x` is row block `rowOf c d 0`. -/
theorem first_row (c : Dev nD) (d : Bool) : k0_off1 c 0 = 256 * rowOf c d 0 := by revert c d; decide
theorem first_col (c : Dev nD) : k0_off1 c 1 = 0 := rfl

set_option maxRecDepth 20000 in
theorem next_row' : ∀ (c : Dev nD) (d : Bool) (t : Fin 15), xOff c d t 0 = 256 * rowOf c d (t + 1) := by decide
/-- The chunk added at step `t` is row block `rowOf c d (t + 1)`. -/
theorem next_row (c : Dev nD) (d : Bool) {t : ℕ} (h : t < 15) : xOff c d t 0 = 256 * rowOf c d (t + 1) :=
  next_row' c d ⟨t, h⟩
theorem next_col (c : Dev nD) (d : Bool) (t : ℕ) : xOff c d t 1 = 0 := by cases d <;> rfl

set_option maxRecDepth 20000 in
theorem rowOf_up' : ∀ (c : Dev nD) (d : Bool) (t : Fin 15), rowOf (toD (!d) c) d t = rowOf c d (t + 1) := by decide
/-- What a device adds to has the row block of its own chunk. -/
theorem rowOf_up (c : Dev nD) (d : Bool) {t : ℕ} (h : t < 15) : rowOf (toD (!d) c) d t = rowOf c d (t + 1) :=
  rowOf_up' c d ⟨t, h⟩

set_option maxRecDepth 20000 in
theorem rowOf_back' : ∀ (c : Dev nD) (d : Bool) (r : Fin 15), rowOf (back d (r + 1) c) d 15 = rowOf c d r := by decide
/-- The finished block that lands at step `15 + r` is the one its finisher was working on. -/
theorem rowOf_back (c : Dev nD) (d : Bool) {r : ℕ} (h : r < 15) : rowOf (back d (r + 1) c) d 15 = rowOf c d r :=
  rowOf_back' c d ⟨r, h⟩

set_option maxRecDepth 20000 in
theorem back_inj : ∀ (d : Bool) (c : Dev nD), Function.Injective fun s : Fin 16 => back d s c := by decide

/-- Sixteen steps up the ring meet every device once. -/
theorem sum_back {M : Type} [AddCommMonoid M] (d : Bool) (c : Dev nD) (f : Dev nD → M) :
    ∑ s ∈ Finset.range 16, f (back d s c) = ∑ e : Dev nD, f e := by
  rw [Finset.sum_range]
  exact (Finite.injective_iff_bijective (α := Fin 16).mp (back_inj d c)).sum_comp f

end Cert.RingValue
-- ==== Proof.Values.Kernel.lean ====
/-
# What the devices compute

Exactly, a block that has been through `t + 1` devices is the sum of their chunk products, and a finished block is the
sum over all devices, scaled and cut off at zero. Every device ends with all finished blocks.
-/
module

public import Idealize.ShloMosaic.Lib.MatmulPlain
public import Idealize.ShloMosaic.Lib.ValueIdx
public import Idealize.ShloMosaic.Lib.Pipeline.ValueKit.Geometry
public import proofs.«01_k».proof.Proof.Values.Ring

@[expose] public section

noncomputable section

namespace Cert.RingValue

open Cert.KernelIdeal Cert.KernelIdeal.Gen Cert.KernelIdeal.RS
open Idealize.ShloMosaic Idealize.ShloMosaic.TcCoe
open Idealize.ShloMosaic.ValueIdx
open scoped BigOperators

variable (I : Ins Ideal)

/-! ## Places -/

/-- Row `r` of row block `n`. -/
def rowI (n : ℕ) (h : n < 16) (r : Fin 256) : Fin 4096 := ⟨256 * n + r, by omega⟩
/-- Column `q` of a direction's half. -/
def colI (d : Bool) (q : Fin 4096) : Fin 8192 := ⟨(if d then 0 else 4096) + q, by split <;> omega⟩

theorem rowI_congr {n n' : ℕ} (e : n = n') (h : n < 16) (h' : n' < 16) (r : Fin 256) : rowI n h r = rowI n' h' r := by
  subst e; rfl

/-- A chunk of `x`. -/
theorem xAt_apply (c : Dev nD) (o : Fin 2 → ℕ) (ho : ∀ a, o a + S256x256.size a ≤ S4096x256.size a) (n : ℕ) (hn : n < 16)
    (h0 : o 0 = 256 * n) (h1 : o 1 = 0) (r k : Fin 256) : xAt I c o ho (ix2 r k) = I.x c (ix2 (rowI n hn r) k) := by
  refine congrArg (I.x c) (funext fun a => Fin.ext ?_)
  match a with
  | 0 => show o 0 + 1 * r.val = 256 * n + r.val; omega
  | 1 => show o 1 + 1 * k.val = k.val; omega

/-- A direction's columns of `w`. -/
theorem wAt_apply (c : Dev nD) (d : Bool) (k : Fin 256) (q : Fin 4096) : wAt I c d (ix2 k q) = I.w c (ix2 k (colI d q)) := by
  have e : wbC I c = I.w c := by
    unfold wbC k0_pay1
    dsimp only
    rw [shapeCast_self, shapeCast_self]
    funext i
    refine congrArg (I.w c) (funext fun a => Fin.ext ?_)
    match a with
    | 0 => show 0 + 1 * (i 0).val = _; omega
    | 1 => show 0 + 1 * (i 1).val = _; omega
  unfold wAt
  rw [e]
  refine congrArg (I.w c) (funext fun a => Fin.ext ?_)
  match a with
  | 0 => show 0 + 1 * k.val = k.val; omega
  | 1 => show (if d then 0 else 4096) + 1 * q.val = (if d then 0 else 4096) + q.val; omega

/-! ## Chunk products -/

/-- Device `e`'s part of `x`, as numbers. -/
def xE (I : Ins Ideal) (e : Dev nD) (i : Fin 4096) (k : Fin 256) : EReal := I.x e (ix2 i k)
/-- Device `e`'s part of `w`, as numbers. -/
def wE (I : Ins Ideal) (e : Dev nD) (k : Fin 256) (j : Fin 8192) : EReal := I.w e (ix2 k j)
/-- What device `e` adds to element `(i, j)` of the result. -/
def part (I : Ins Ideal) (i : Fin 4096) (j : Fin 8192) (e : Dev nD) : EReal :=
  ∑ k : Fin 256, xE I e i k * wE I e k j

/-- The printed product is the plain one. -/
theorem dot_plain : dot_S256x256_S256x4096_S256x4096_1_0_0_1_n_n = DotDims.plain 256 256 4096 := rfl

theorem mul_apply (x : Vec Ideal S256x256 .fp8e4m3) (w : Vec Ideal S256x4096 .bf16) (r : Fin 256) (q : Fin 4096) :
    k0_pay5 (F := Ideal) x w (ix2 r q) = ∑ k : Fin 256, x (ix2 r k) * w (ix2 k q) := by
  unfold k0_pay5
  rw [shapeCast_self, dot_plain]
  refine (Ideal.matmul_plain_apply (φ₁ := .bf16) (φ₂ := .bf16) none x w _ r q).trans ?_
  rw [constant_apply, Ideal.ofBits_zero_f32, zero_add]

/-- A chunk product, element by element. -/
theorem chunk_apply (c : Dev nD) (d : Bool) (o : Fin 2 → ℕ) (ho : ∀ a, o a + S256x256.size a ≤ S4096x256.size a) (n : ℕ) (hn : n < 16)
    (h0 : o 0 = 256 * n) (h1 : o 1 = 0) (r : Fin 256) (q : Fin 4096) :
    k0_pay5 (F := Ideal) (xAt I c o ho) (wAt I c d) (ix2 r q) = part I (rowI n hn r) (colI d q) c := by
  rw [mul_apply]
  exact Finset.sum_congr rfl fun k _ => by rw [xAt_apply I c o ho n hn h0 h1, wAt_apply]; rfl

/-! ## Payloads -/

/-- Adding the leading axis and dropping it again changes nothing. -/
theorem unslot_cast {e : EltTy} (v : Vec Ideal S256x4096 e) (h : S256x4096.ShapeCasts S1x256x4096) :
    unslot (F := Ideal) (shapeCast S1x256x4096 v h) = v :=
  shapeCast_shapeCast v h (by decide)

theorem first_apply (x : Vec Ideal S256x256 .fp8e4m3) (w : Vec Ideal S256x4096 .bf16) :
    unslot (F := Ideal) (e := .bf16) (k0_pay2 (F := Ideal) x w) = k0_pay5 (F := Ideal) x w := unslot_cast _ _
theorem add_apply (p : FVec Ideal S256x4096 .f32) (v : Vec Ideal S1x256x4096 .bf16) :
    unslot (F := Ideal) (e := .bf16) (k0_pay8 (F := Ideal) p v) = fun x => p x + unslot (F := Ideal) v x := unslot_cast _ _
theorem done_apply (sc : EReal) (p : FVec Ideal S256x4096 .f32) (v : Vec Ideal S1x256x4096 .bf16) :
    unslot (F := Ideal) (e := .bf16) (k0_pay79 (F := Ideal) sc p v) = k0_pay77 (F := Ideal) sc p v := unslot_cast _ _
theorem own_apply (sc : EReal) (p : FVec Ideal S256x4096 .f32) (v : Vec Ideal S1x256x4096 .bf16) :
    k0_pay78 (F := Ideal) sc p v = k0_pay77 (F := Ideal) sc p v := shapeCast_self _ _
theorem widen_apply (v : Vec Ideal S1x256x4096 .bf16) :
    unslot (F := Ideal) (e := .f32) (k0_pay80 (F := Ideal) v) = unslot (F := Ideal) (e := .bf16) v := unslot_cast _ _
theorem relu_apply (sc : EReal) (p : FVec Ideal S256x4096 .f32) (v : Vec Ideal S1x256x4096 .bf16) (x : S256x4096.Idx) :
    k0_pay77 (F := Ideal) sc p v x = max ((p x + unslot (F := Ideal) (e := .bf16) v x) * sc) 0 := by
  have e : k0_pay77 (F := Ideal) sc p v x = max ((p x + unslot (F := Ideal) (e := .bf16) v x) * sc) (Ideal.ofBits .f32 0x00000000#32) := rfl
  rw [e, Ideal.ofBits_zero_f32]

/-! ## The blocks on their way -/

/-- A block sent at step `t ≤ 14` holds the sum of `t + 1` chunk products. -/
theorem V_apply (d : Bool) (t : ℕ) (ht : t ≤ 14) (c : Dev nD) (r : Fin 256) (q : Fin 4096) :
    unslot (F := Ideal) (V I d t c) (ix2 r q)
      = ∑ s ∈ Finset.range (t + 1), part I (rowI (rowOf c d t) (rowOf_lt c d t) r) (colI d q) (back d s c) := by
  induction t generalizing c with
  | zero =>
    rw [V, first_apply, chunk_apply I c d _ _ (rowOf c d 0) (rowOf_lt c d 0) (first_row c d) (first_col c), Finset.sum_range_one]
    rfl
  | succ t ih =>
    rw [V_reduce I d c (by omega), add_apply, Finset.sum_range_succ']
    show _ + unslot (F := Ideal) (V I d t (toD (!d) c)) (ix2 r q) = _
    rw [ih (by omega), chunk_apply I c d _ _ (rowOf c d (t + 1)) (rowOf_lt c d _) (next_row c d (by omega)) (next_col c d t), add_comm]
    refine congrArg₂ (· + ·) (Finset.sum_congr rfl fun s _ => ?_) rfl
    rw [rowI_congr (rowOf_up c d (by omega : t < 15)) _ (rowOf_lt c d _)]
    rfl

/-- The last addition makes the sum complete. -/
theorem total_apply (d : Bool) (c : Dev nD) (r : Fin 256) (q : Fin 4096) :
    prodAt I c d 14 (ix2 r q) + unslot (F := Ideal) (V I d 14 (toD (!d) c)) (ix2 r q)
      = ∑ e : Dev nD, part I (rowI (rowOf c d 15) (rowOf_lt c d 15) r) (colI d q) e := by
  rw [← sum_back d c, Finset.sum_range_succ', V_apply I d 14 (by omega)]
  unfold prodAt
  rw [chunk_apply I c d _ _ (rowOf c d 15) (rowOf_lt c d _) (next_row c d (by omega)) (next_col c d 14), add_comm]
  refine congrArg₂ (· + ·) (Finset.sum_congr rfl fun s _ => ?_) rfl
  rw [rowI_congr (rowOf_up c d (by omega : 14 < 15)) _ (rowOf_lt c d _)]
  rfl

/-- Element `(i, j)` of the result, finished by a device whose scale is `sc`. -/
def whole (I : Ins Ideal) (sc : EReal) (i : Fin 4096) (j : Fin 8192) : EReal := max ((∑ e : Dev nD, part I i j e) * sc) 0

theorem fin_apply (d : Bool) (c : Dev nD) (r : Fin 256) (q : Fin 4096) :
    fin I d c (ix2 r q) = whole I (scAt I c) (rowI (rowOf c d 15) (rowOf_lt c d 15) r) (colI d q) := by
  unfold fin
  rw [own_apply, relu_apply, total_apply]
  rfl

/-- A finished block travels on unchanged. -/
theorem V_travel (d : Bool) (r : ℕ) (c : Dev nD) : V I d (15 + r) c = V I d 15 (back d r c) := by
  induction r generalizing c with
  | zero => rfl
  | succ r ih =>
    rw [back_succ, ← ih, show 15 + (r + 1) = (15 + r) + 1 from rfl, V, if_neg (by omega), if_neg (by omega)]

theorem got_apply (d : Bool) (c : Dev nD) {s : ℕ} (hs : s < 15) (r : Fin 256) (q : Fin 4096) :
    got I d c s (ix2 r q) = whole I (scAt I (back d (s + 1) c)) (rowI (rowOf c d s) (rowOf_lt c d s) r) (colI d q) := by
  unfold got
  rw [widen_apply, V_travel, ← back_succ, V_finish, done_apply, relu_apply]
  have h := total_apply I d (back d (s + 1) c) r q
  unfold prodAt at h
  rw [h, rowI_congr (rowOf_back c d hs) _ (rowOf_lt c d s)]
  rfl

/-- Every block of the result, if all devices have the same scale. -/
theorem out_apply (sc : EReal) (hsc : ∀ e, scAt I e = sc) (d : Bool) (c : Dev nD) {s : ℕ} (hs : s < 16) (r : Fin 256) (q : Fin 4096) :
    outOf I d c s (ix2 r q) = whole I sc (rowI (rowOf c d s) (rowOf_lt c d s) r) (colI d q) := by
  unfold outOf
  split
  · rename_i h; rw [got_apply I d c h, hsc]
  · rename_i h
    obtain rfl : s = 15 := by omega
    rw [fin_apply, hsc]

/-- The whole result. -/
theorem res_apply (sc : EReal) (hsc : ∀ e, scAt I e = sc) (c : Dev nD) (f : Buf (Elt Ideal) ((c : Thread nD τ).loc main_v1))
    (hf : IsOut I c f) (i : Fin 4096) (j : Fin 8192) : f (ix2 i j) = whole I sc i j := by
  obtain ⟨d, hd⟩ : ∃ d : Bool, j.val / 4096 = if d then 0 else 1 := by
    by_cases h : j.val < 4096
    · exact ⟨true, by rw [if_pos rfl]; omega⟩
    · exact ⟨false, by rw [if_neg (by decide)]; omega⟩
  obtain ⟨s, hs, e⟩ := rowOf_onto c d (q := i.val / 256) (by omega)
  have h := congrFun (hf d s hs) (ix2 ⟨i.val % 256, Nat.mod_lt _ (by decide)⟩ ⟨j.val % 4096, Nat.mod_lt _ (by decide)⟩)
  rw [out_apply I sc hsc d c hs] at h
  have hi : rowI (rowOf c d s) (rowOf_lt c d s) ⟨i.val % 256, Nat.mod_lt _ (by decide)⟩ = i := Fin.ext (by
    show 256 * rowOf c d s + i.val % 256 = i.val
    omega)
  have hj : colI d ⟨j.val % 4096, Nat.mod_lt _ (by decide)⟩ = j := Fin.ext (by
    show (if d then 0 else 4096) + j.val % 4096 = j.val
    cases d
    · rw [if_neg (by decide)] at hd ⊢; omega
    · rw [if_pos rfl] at hd ⊢; omega)
  rw [hi, hj] at h
  refine Eq.trans (congrArg f (funext fun a => Fin.ext ?_)) h
  match a with
  | 0 =>
    show i.val = pOff c d s 0 + 1 * (i.val % 256)
    rw [pOff_rows c d hs]; omega
  | 1 =>
    show j.val = pOff c d s 1 + 1 * (j.val % 4096)
    rw [pOff_cols c d hs]
    cases d
    · rw [if_neg (by decide)] at hd ⊢; omega
    · rw [if_pos rfl] at hd ⊢; omega

end Cert.RingValue
-- ==== Proof.Values.Reference.lean ====
/-
# What the reference computes

The reference is one matrix product, scaled and cut off at zero. Its only output window is the whole array, so its
result is read off directly: `out (i, j) = max ((∑ k, x (i, k) * w (k, j)) * (sx * sw)) 0`.
-/
module

public import Idealize.ShloMosaic.Lib.MatmulPlain
public import Idealize.ShloMosaic.Lib.VecWindow
public import Idealize.ShloMosaic.Lib.ValueIdx
public import Idealize.ShloMosaic.Lib.Pipeline.ValueKit.Geometry
public import proofs.«01_k».proof.Proof.Gen.ReferenceIdeal.Value

@[expose] public section

noncomputable section

namespace Cert.RefValue

open Cert.ReferenceIdeal Cert.ReferenceIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The output window's block is the whole array. -/
theorem blk_read (f : main_v0.ty.Contents (Elt Ideal)) : ((cfg0.win 4).blk t0_0).view.read (Elt Ideal) f = f := by
  funext i
  rw [View.read_apply]
  exact congrArg f (funext fun a => Fin.ext (win0_4.rect_emb_val_of_index_zero t0_0 a rfl i))

/-- The block of `x` that is staged is the whole array. -/
theorem in_0 (c : Dev nD) : iblk m c 0 t0_0 = m ((c : Thread nD τ).loc main_arg0) := by
  funext i
  exact congrArg (m ((c : Thread nD τ).loc main_arg0)) (funext fun a => Fin.ext (win0_0.rect_emb_val_of_index_zero t0_0 a rfl i))

/-- The same of `w`. -/
theorem in_1 (c : Dev nD) : iblk m c 1 t0_0 = m ((c : Thread nD τ).loc main_arg1) := by
  funext i
  exact congrArg (m ((c : Thread nD τ).loc main_arg1)) (funext fun a => Fin.ext (win0_1.rect_emb_val_of_index_zero t0_0 a rfl i))

/-- The same of the scale of `x`. -/
theorem in_2 (c : Dev nD) : iblk m c 2 t0_0 = m ((c : Thread nD τ).loc main_arg2) := by
  funext i
  exact congrArg (m ((c : Thread nD τ).loc main_arg2)) (funext fun a => Fin.ext (win0_2.rect_emb_val_of_index_zero t0_0 a rfl i))

/-- The same of the scale of `w`. -/
theorem in_3 (c : Dev nD) : iblk m c 3 t0_0 = m ((c : Thread nD τ).loc main_arg3) := by
  funext i
  exact congrArg (m ((c : Thread nD τ).loc main_arg3)) (funext fun a => Fin.ext (win0_3.rect_emb_val_of_index_zero t0_0 a rfl i))

/-- The body leaves the printed expression of its inputs. -/
theorem body_value (c : Dev nD) (x0 : Vec Ideal S4096x4096 .fp8e4m3) (x1 : Vec Ideal S4096x8192 .fp8e4m3) (x2 : Vec Ideal S1 .f32) (x3 : Vec Ideal S1 .f32) :
   out0_A_4 c (ms0_0 t0_0) (hs0_0 t0_0) (ms0_1 t0_0) (hs0_1 t0_0) (ms0_2 t0_0) (hs0_2 t0_0) (ms0_3 t0_0) (hs0_3 t0_0) (ms0_4 t0_0) (hs0_4 t0_0) x0 x1 x2 x3
   = k0_pay1 x0 x1 (x2 (Shape.Idx.first (numel1_S1.symm ▸ Nat.one_pos))) (x3 (Shape.Idx.first (numel1_S1.symm ▸ Nat.one_pos))) := by
  unfold out0_A_4 kernelRun0_A
  refine (View.read_writes_full (s := S4096x8192) VO0_4 _ (off := ![0, 0]) inb_S4096x8192_S4096x8192_0_0 _ []).trans ?_
  unfold kernelRun0_A.sl.r kernelRun0_A.sl.r_1
  congr 1
  · exact (View.readAt_full _ _ _).trans ((hs0_0 t0_0).read_unread x0)
  · exact (View.readAt_full _ _ _).trans ((hs0_1 t0_0).read_unread x1)
  · exact congrFun ((View.readAt_full _ _ _).trans ((hs0_2 t0_0).read_unread x2)) _
  · exact congrFun ((View.readAt_full _ _ _).trans ((hs0_3 t0_0).read_unread x3)) _

/-- That expression, element by element. -/
theorem pay_apply (x : Vec Ideal S4096x4096 .fp8e4m3) (w : Vec Ideal S4096x8192 .fp8e4m3) (a b : EReal) (i : Fin 4096) (j : Fin 8192) :
    k0_pay1 (F := Ideal) x w a b (ix2 i j) = max ((∑ k : Fin 4096, x (ix2 i k) * w (ix2 k j)) * (a * b)) 0 := by
  have e : k0_pay1 (F := Ideal) x w a b (ix2 i j) = max (FloatOps.matmul (F := Ideal) (DotDims.plain 4096 4096 8192) none (φ₁ := .f32) (φ₂ := .f32) x w (fun _ => Ideal.ofBits .f32 0#32) (ix2 i j) * (a * b)) (Ideal.ofBits .f32 0#32) := rfl
  rw [e, Ideal.matmul_plain_apply]
  simp

/-- The reference's result as a function of its arguments. -/
def result (c : Dev nD) : main_v0.ty.Contents (Elt Ideal) :=
  k0_pay1 (F := Ideal) (m ((c : Thread nD τ).loc main_arg0)) (m ((c : Thread nD τ).loc main_arg1))
    (m ((c : Thread nD τ).loc main_arg2) (Shape.Idx.first (numel1_S1.symm ▸ Nat.one_pos)))
    (m ((c : Thread nD τ).loc main_arg3) (Shape.Idx.first (numel1_S1.symm ▸ Nat.one_pos)))

/-- The output array at the end. -/
theorem arr_value (c : Dev nD) : (dats m 0 c).arrAt 4 cfg0.N = result m c := by
  rw [← blk_read ((dats m 0 c).arrAt 4 cfg0.N), Value.blocks4 m c t0_0 (by decide), Value.flushed4_A, in_0, in_1, in_2, in_3]
  refine Eq.trans ?_ (body_value c _ _ _ _)
  rfl

/-- The reference runs, leaves `result` and keeps its arguments. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr_value m c), (h c).2⟩) (Value.run_blocks m ρ)

end Cert.RefValue

end
-- ==== Proof.Values.Equal.lean ====
/-
# The ring computes the reference's product

Device `e` holds columns `256 e … 256 e + 255` of `x` and the same rows of `w`. So the sum over the devices of their
chunk products is the full contraction over 4096, cut into sixteen tiles, and every device's result is the reference's.
-/
module

public import proofs.«01_k».proof.Defs
public import Idealize.ShloMosaic.Lib.Pointwise.Sums
public import Idealize.ShloMosaic.Lib.Layout
public import proofs.«01_k».proof.Proof.Values.Kernel
public import proofs.«01_k».proof.Proof.Values.Reference
public import proofs.«01_k».proof.Proof.KernelIdeal.Launch

@[expose] public section

noncomputable section

namespace Cert.RingValue

open Cert.KernelIdeal Cert.KernelIdeal.Gen Cert.KernelIdeal.RS
open Idealize.ShloMosaic Idealize.ShloMosaic.TcCoe Idealize.SL.Sem
open Idealize.ShloMosaic.ValueIdx
open scoped BigOperators

/-! ## The staged inputs -/

variable (m : (ℓ : Loc nD τ sig) → Buf (Elt Ideal) ℓ)

/-- Every staged block is a whole argument. -/
theorem ins_x (c : Dev nD) : (insOf m).x c = m ((c : Thread nD τ).loc main_arg0) := by
  funext i
  exact congrArg (m ((c : Thread nD τ).loc main_arg0)) (funext fun a => Fin.ext (win0_0.rect_emb_val_of_index_zero (0 : Fin 1) a rfl i))
theorem ins_w (c : Dev nD) : (insOf m).w c = m ((c : Thread nD τ).loc main_arg1) := by
  funext i
  exact congrArg (m ((c : Thread nD τ).loc main_arg1)) (funext fun a => Fin.ext (win0_1.rect_emb_val_of_index_zero (0 : Fin 1) a rfl i))
theorem ins_sx (c : Dev nD) : (insOf m).sx c = m ((c : Thread nD τ).loc main_arg2) := by
  funext i
  exact congrArg (m ((c : Thread nD τ).loc main_arg2)) (funext fun a => Fin.ext (win0_2.rect_emb_val_of_index_zero (0 : Fin 1) a rfl i))
theorem ins_sw (c : Dev nD) : (insOf m).sw c = m ((c : Thread nD τ).loc main_arg3) := by
  funext i
  exact congrArg (m ((c : Thread nD τ).loc main_arg3)) (funext fun a => Fin.ext (win0_3.rect_emb_val_of_index_zero (0 : Fin 1) a rfl i))

/-- The only index of a scale. -/
abbrev i₁ : Cert.KernelIdeal.S1.Idx := Shape.Idx.first (numel1_S1.symm ▸ Nat.one_pos)

theorem one_idx (i j : Cert.KernelIdeal.S1.Idx) : i = j := funext fun a => Fin.ext (by
  match a with
  | 0 =>
    have h := (i 0).isLt; have h' := (j 0).isLt
    change (i 0).val < 1 at h; change (j 0).val < 1 at h'
    omega)

/-- The scale a device multiplies by. -/
theorem scale_apply (c : Dev nD) :
    scAt (insOf m) c = (FloatOps.mulf (F := Ideal) (φ := .f32) (m ((c : Thread nD τ).loc main_arg2) i₁) (m ((c : Thread nD τ).loc main_arg3) i₁)) := by
  unfold scAt k0_pay4
  rw [ins_sx, ins_sw]
  exact congrArg₂ (FloatOps.mulf (F := Ideal) (φ := .f32)) (congrArg (m ((c : Thread nD τ).loc main_arg2)) (one_idx _ _))
    (congrArg (m ((c : Thread nD τ).loc main_arg3)) (one_idx _ _))

/-! ## The contraction in tiles -/

/-- The devices' shares of an element add up to the full contraction. -/
theorem parts_eq (I : Ins Ideal) (x : Fin 4096 → Fin 4096 → EReal) (w : Fin 4096 → Fin 8192 → EReal)
    (hx : ∀ (e : Dev nD) (i : Fin 4096) (k : Fin 256) (h : e.val * 256 + k.val < 4096), xE I e i k = x i ⟨e.val * 256 + k.val, h⟩)
    (hw : ∀ (e : Dev nD) (k : Fin 256) (j : Fin 8192) (h : e.val * 256 + k.val < 4096), wE I e k j = w ⟨e.val * 256 + k.val, h⟩ j)
    (i : Fin 4096) (j : Fin 8192) : ∑ e : Dev nD, part I i j e = ∑ k : Fin 4096, x i k * w k j := by
  refine Eq.symm ((Fin.sum_univ_tiles (N := 4096) 16 256 (by decide) fun k => x i k * w k j).trans ?_)
  exact Finset.sum_congr rfl fun e _ => Finset.sum_congr rfl fun k _ => (congrArg₂ (· * ·) (hx e i k _) (hw e k j _)).symm

/-- An element of a block of columns in the whole array. -/
theorem cols_block {α : Type} (v : (⟨2, ![4096, 4096]⟩ : Shape).Idx → α) (h : Layout.Tiles ⟨2, ![4096, 256]⟩ ⟨2, ![4096, 4096]⟩ 1 16)
    (e : Fin 16) (i : Fin 4096) (k : Fin 256) (hk : e.val * 256 + k.val < 4096) :
    Layout.block ⟨2, ![4096, 256]⟩ ⟨2, ![4096, 4096]⟩ 1 16 e v h (ValueIdx.ix2 i k) = v (ValueIdx.ix2 i ⟨e.val * 256 + k.val, hk⟩) :=
  congrArg v (funext fun a => Fin.ext (by
    match a with
    | 0 => rfl
    | 1 => rfl))
/-- An element of a block of rows in the whole array. -/
theorem rows_block {α : Type} (v : (⟨2, ![4096, 8192]⟩ : Shape).Idx → α) (h : Layout.Tiles ⟨2, ![256, 8192]⟩ ⟨2, ![4096, 8192]⟩ 0 16)
    (e : Fin 16) (k : Fin 256) (j : Fin 8192) (hk : e.val * 256 + k.val < 4096) :
    Layout.block ⟨2, ![256, 8192]⟩ ⟨2, ![4096, 8192]⟩ 0 16 e v h (ValueIdx.ix2 k j) = v (ValueIdx.ix2 ⟨e.val * 256 + k.val, hk⟩ j) :=
  congrArg v (funext fun a => Fin.ext (by
    match a with
    | 0 => rfl
    | 1 => rfl))

/-! ## Both programs -/

/-- The reference's `x`, as numbers. -/
def xR0 (m' : (ℓ : Loc Cert.ReferenceIdeal.nD Cert.ReferenceIdeal.τ Cert.ReferenceIdeal.sig) → Buf (Elt Ideal) ℓ) (i k : Fin 4096) : EReal :=
  m' (((0 : Dev Cert.ReferenceIdeal.nD).tc : Thread Cert.ReferenceIdeal.nD Cert.ReferenceIdeal.τ).loc Cert.ReferenceIdeal.main_arg0) (ValueIdx.ix2 i k)
/-- The reference's `w`, as numbers. -/
def wR0 (m' : (ℓ : Loc Cert.ReferenceIdeal.nD Cert.ReferenceIdeal.τ Cert.ReferenceIdeal.sig) → Buf (Elt Ideal) ℓ) (k : Fin 4096) (j : Fin 8192) : EReal :=
  m' (((0 : Dev Cert.ReferenceIdeal.nD).tc : Thread Cert.ReferenceIdeal.nD Cert.ReferenceIdeal.τ).loc Cert.ReferenceIdeal.main_arg1) (ValueIdx.ix2 k j)

/-- Every device of the ring ends with the reference's result, and all arguments are kept. -/
theorem algebraic : Cert.algebraic_KernelIdeal_ReferenceIdeal
    (hKernelIdeal := Cert.KernelIdeal.Gen.facts) (hReferenceIdeal := Cert.ReferenceIdeal.Gen.facts) := by
  intro m g m' g' _ h
  refine ⟨Cert.RefValue.result m' 0, ?_, ?_⟩
  · refine (θ_run _ _ _).mono (fun r hr c => ⟨?_, (hr c).2⟩) (run_values m g)
    funext i
    have hsc (e : Dev nD) : scAt (insOf m) e = FloatOps.mulf (F := Ideal) (φ := .f32)
        (m' ((((0 : Dev Cert.ReferenceIdeal.nD)).tc : Thread Cert.ReferenceIdeal.nD Cert.ReferenceIdeal.τ).loc Cert.ReferenceIdeal.main_arg2) i₁)
        (m' ((((0 : Dev Cert.ReferenceIdeal.nD)).tc : Thread Cert.ReferenceIdeal.nD Cert.ReferenceIdeal.τ).loc Cert.ReferenceIdeal.main_arg3) i₁) :=
      (scale_apply m e).trans (congrArg₂ (FloatOps.mulf (F := Ideal) (φ := .f32)) (congrFun (h e).2.2.1 i₁) (congrFun (h e).2.2.2 i₁))
    obtain ⟨a, b, rfl⟩ : ∃ (a : Fin 4096) (b : Fin 8192), i = ValueIdx.ix2 a b := ⟨i 0, i 1, ValueIdx.eq_ix2 i⟩
    refine (res_apply (insOf m) _ hsc c _ (hr c).1 a b).trans ?_
    refine Eq.trans ?_ (Cert.RefValue.pay_apply _ _ _ _ a b).symm
    refine congrArg (fun s : EReal => max (s * _) 0) (parts_eq (insOf m) (xR0 m') (wR0 m') ?_ ?_ a b)
    · intro e i k hk
      unfold xE xR0
      rw [ins_x, (h e).1]
      exact cols_block _ _ e i k hk
    · intro e k j hk
      unfold wE wR0
      rw [ins_w, (h e).2.1]
      exact rows_block _ _ e k j hk
  · exact (θ_run _ _ _).mono (fun r hr => hr 0) (Cert.RefValue.run m' g')

end Cert.RingValue
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Values.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.RS.frame_run m g, fun m g _ => Cert.KernelIdeal.RS.frame_run m g,
  fun m g _ => Cert.ReferenceIdeal.Gen.frame m g, trivial, Cert.RingValue.algebraic⟩

end Cert.Proof

end
